-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S100000x128 : Shape := ⟨2, ![100000, 128]⟩
abbrev S128x1 : Shape := ⟨2, ![128, 1]⟩
abbrev S100000 : Shape := ⟨1, ![100000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : FVec F S128x1 .f32) (main_arg2 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 32 := constantI S_ 32 512#32
  let main_v2 : IVec S100000 32 := broadcastInDim S100000 ![] bcast_S_S100000 main_c_0
  let main_v3 : IVec S100000 1 := cmpi .slt main_arg2 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000x128 : Shape := ⟨2, ![100000, 128]⟩
abbrev S128x1 : Shape := ⟨2, ![128, 1]⟩
abbrev S100000 : Shape := ⟨1, ![100000]⟩
abbrev S50x1x2000 : Shape := ⟨3, ![50, 1, 2000]⟩
abbrev S1x512 : Shape := ⟨2, ![1, 512]⟩
abbrev S2000x128 : Shape := ⟨2, ![2000, 128]⟩
abbrev S1x1x2000 : Shape := ⟨3, ![1, 1, 2000]⟩
abbrev S2000x1 : Shape := ⟨2, ![2000, 1]⟩
abbrev S2000 : Shape := ⟨1, ![2000]⟩
abbrev S2000x512 : Shape := ⟨2, ![2000, 512]⟩
abbrev S512 : Shape := ⟨1, ![512]⟩
abbrev S512x128 : Shape := ⟨2, ![512, 128]⟩
abbrev S512x1 : Shape := ⟨2, ![512, 1]⟩

abbrev nBuf : Space → Nat
  | .hbm => 10
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S128x1, .f32⟩
  | .hbm, ⟨2, _⟩ => ⟨S100000, .i32⟩
  | .hbm, ⟨3, _⟩ => ⟨S50x1x2000, .i32⟩
  | .hbm, ⟨4, _⟩ => ⟨S50x1x2000, .f32⟩
  | .hbm, ⟨5, _⟩ => ⟨S1x512, .f32⟩
  | .hbm, ⟨6, _⟩ => ⟨S1x512, .f32⟩
  | .hbm, ⟨7, _⟩ => ⟨S50x1x2000, .f32⟩
  | .hbm, ⟨8, _⟩ => ⟨S512x128, .f32⟩
  | .hbm, ⟨9, _⟩ => ⟨S100000, .f32⟩
  | .local _ .vmem, ⟨0, _⟩ => ⟨S2000x128, .f32⟩
  | .local _ .vmem, ⟨1, _⟩ => ⟨S2000x128, .f32⟩
  | .local _ .vmem, ⟨2, _⟩ => ⟨S128x1, .f32⟩
  | .local _ .vmem, ⟨3, _⟩ => ⟨S1x1x2000, .i32⟩
  | .local _ .vmem, ⟨4, _⟩ => ⟨S1x1x2000, .i32⟩
  | .local _ .vmem, ⟨5, _⟩ => ⟨S1x1x2000, .f32⟩
  | .local _ .vmem, ⟨6, _⟩ => ⟨S1x1x2000, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S2000x128, .f32⟩
  | .local _ .vmem, ⟨12, _⟩ => ⟨S2000x128, .f32⟩
  | .local _ .vmem, ⟨13, _⟩ => ⟨S1x1x2000, .i32⟩
  | .local _ .vmem, ⟨14, _⟩ => ⟨S1x1x2000, .i32⟩
  | .local _ .vmem, ⟨15, _⟩ => ⟨S1x1x2000, .f32⟩
  | .local _ .vmem, ⟨16, _⟩ => ⟨S1x1x2000, .f32⟩
  | .local _ .vmem, ⟨17, _⟩ => ⟨S1x512, .f32⟩
  | .local _ .vmem, ⟨18, _⟩ => ⟨S1x512, .f32⟩
  | .local _ .vmem, ⟨19, _⟩ => ⟨S1x1x2000, .f32⟩
  | .local _ .vmem, ⟨20, _⟩ => ⟨S1x1x2000, .f32⟩
  | .local _ .vmem, ⟨21, _⟩ => ⟨S512x128, .f32⟩
  | .local _ .vmem, ⟨22, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v43 : BitVec 1 := Scalar.cmpi .eq arg0 c49_i32
  let v44 : BitVec 32 := Scalar.extui v43
  let c0_i32_22 : BitVec 32 := 0#32
  let v45 : BitVec 1 := Scalar.cmpi .ne v44 c0_i32_22
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v39 : BitVec 1 := Scalar.cmpi .eq arg0 c49_i32
  let v40 : BitVec 32 := Scalar.extui v39
  let c0_i32_21 : BitVec 32 := 0#32
  let v41 : BitVec 1 := Scalar.cmpi .ne v40 c0_i32_21
  v41

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1x2000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S512x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceIdeal.lean ====
abbrev S100000x128 : Shape := ⟨2, ![100000, 128]⟩
abbrev S128x1 : Shape := ⟨2, ![128, 1]⟩
abbrev S100000 : Shape := ⟨1, ![100000]⟩
abbrev S100000x1 : Shape := ⟨2, ![100000, 1]⟩
abbrev S512 : Shape := ⟨1, ![512]⟩
abbrev S1x512 : Shape := ⟨2, ![1, 512]⟩
abbrev S100000x512 : Shape := ⟨2, ![100000, 512]⟩
abbrev S_ : Shape := ⟨0, ![]⟩
abbrev S512x128 : Shape := ⟨2, ![512, 128]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x1, .f32⟩
  | .hbm, ⟨2, _⟩ => ⟨S100000, .i32⟩
  | .hbm, ⟨3, _⟩ => ⟨S100000x1, .f32⟩
  | .hbm, ⟨4, _⟩ => ⟨S100000, .f32⟩
  | .hbm, ⟨5, _⟩ => ⟨S100000x1, .i32⟩
  | .hbm, ⟨6, _⟩ => ⟨S512, .i32⟩
  | .hbm, ⟨7, _⟩ => ⟨S1x512, .i32⟩
  | .hbm, ⟨8, _⟩ => ⟨S100000x512, .i32⟩
  | .hbm, ⟨9, _⟩ => ⟨S100000x512, .i32⟩
  | .hbm, ⟨10, _⟩ => ⟨S100000x512, .i1⟩
  | .hbm, ⟨11, _⟩ => ⟨S100000x1, .f32⟩
  | .hbm, ⟨12, _⟩ => ⟨S_, .f32⟩
  | .hbm, ⟨13, _⟩ => ⟨S_, .f32⟩
  | .hbm, ⟨14, _⟩ => ⟨S100000x512, .f32⟩
  | .hbm, ⟨15, _⟩ => ⟨S100000x512, .f32⟩
  | .hbm, ⟨16, _⟩ => ⟨S100000x512, .f32⟩
  | .hbm, ⟨17, _⟩ => ⟨S_, .f32⟩
  | .hbm, ⟨18, _⟩ => ⟨S512, .f32⟩
  | .hbm, ⟨19, _⟩ => ⟨S_, .i32⟩
  | .hbm, ⟨20, _⟩ => ⟨S100000, .i32⟩
  | .hbm, ⟨21, _⟩ => ⟨S100000, .i1⟩
  | .hbm, ⟨22, _⟩ => ⟨S_, .i32⟩
  | .hbm, ⟨23, _⟩ => ⟨S100000, .i32⟩
  | .hbm, ⟨24, _⟩ => ⟨S100000, .i32⟩
  | .hbm, ⟨25, _⟩ => ⟨S100000, .i32⟩
  | .hbm, ⟨26, _⟩ => ⟨S100000x1, .i32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S512, .f32⟩
  | .hbm, ⟨32, _⟩ => ⟨S100000x1, .i32⟩
  | .hbm, ⟨33, _⟩ => ⟨S512, .f32⟩
  | .hbm, ⟨34, _⟩ => ⟨S_, .i32⟩
  | .hbm, ⟨35, _⟩ => ⟨S100000, .i32⟩
  | .hbm, ⟨36, _⟩ => ⟨S100000, .i1⟩
  | .hbm, ⟨37, _⟩ => ⟨S_, .i32⟩
  | .hbm, ⟨38, _⟩ => ⟨S100000, .i32⟩
  | .hbm, ⟨39, _⟩ => ⟨S100000, .i32⟩
  | .hbm, ⟨40, _⟩ => ⟨S100000, .i32⟩
  | .hbm, ⟨41, _⟩ => ⟨S100000x1, .i32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S512x128, .f32⟩
  | .hbm, ⟨49, _⟩ => ⟨S100000x1, .i32⟩
  | .hbm, ⟨50, _⟩ => ⟨S512x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Proof.Ideal.StatsBody.lean ====
/-
  The first kernel's body at one grid point, as a triple with the values it leaves.

  The body reads a block of rows `x`, the weight column `w` and the block's segment numbers `b`. It stores the rows'
  scores and updates two carried rows: the running maximum per segment and the running sum of exponentials. At the
  first point it resets the two rows before it uses them. At the last point it copies them to the two row outputs.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The running maximum after a block, from the one before it. -/
def mStep (x : Vec F S2000x128 .f32) (w : Vec F S128x1 .f32) (b : Vec F S1x1x2000 .i32) (m : Vec F S1x512 .f32) : Vec F S1x512 .f32 :=
  k0_pay9 x w b m

/-- The running sum after a block, from the maximum and the sum before it. -/
def lStep (x : Vec F S2000x128 .f32) (w : Vec F S128x1 .f32) (b : Vec F S1x1x2000 .i32) (m l : Vec F S1x512 .f32) : Vec F S1x512 .f32 :=
  addf (k0_pay11 x w b m l) (k0_pay10 x w b m)

/-- The maximum row as the first point resets it. -/
def mReset : Vec F S1x512 .f32 := k0_pay3

/-- The sum row as the first point resets it. -/
def lReset : Vec F S1x512 .f32 := k0_pay4

/-- The condition of the body's first `scf.if`: the point is the first one. -/
abbrev first0 (i : grid0.Coords) : Prop :=
  (Scalar.cmpi .ne (Scalar.extui (Scalar.cmpi .eq (BitVec.ofNat 32 (i 0).val) 0#32)) 0#32) = 1#1

/-- The condition of the body's second `scf.if`: the point is the last one. -/
abbrev last0 (i : grid0.Coords) : Prop := k0_cond2 i = 1#1

/-- Two zero offsets. -/
theorem hz2 : (![0, 0] : Fin 2 → Nat) = fun _ => 0 := funext fun a => by fin_cases a <;> rfl
/-- Three zero offsets. -/
theorem hz3 : (![0, 0, 0] : Fin 3 → Nat) = fun _ => 0 := funext fun a => by fin_cases a <;> rfl

section Triples

variable (c : Dev nD) (i : grid0.Coords)
  (a1 : Memref sig .tc .vmem S2000x128 .f32) (h1 : a1.IsWhole)
  (a2 : Memref sig .tc .vmem S128x1 .f32) (h2 : a2.IsWhole)
  (a3 : Memref sig .tc .vmem S1x1x2000 .i32) (h3 : a3.IsWhole)
  (a4 : Memref sig .tc .vmem S1x1x2000 .f32) (h4 : a4.IsWhole)
  (a5 : Memref sig .tc .vmem S1x512 .f32) (h5 : a5.IsWhole)
  (a6 : Memref sig .tc .vmem S1x512 .f32) (h6 : a6.IsWhole)
  (a7 : Memref sig .tc .vmem S1x512 .f32) (h7 : a7.IsWhole)
  (a8 : Memref sig .tc .vmem S1x512 .f32) (h8 : a8.IsWhole)
  (x : Vec F S2000x128 .f32) (w : Vec F S128x1 .f32) (b : Vec F S1x1x2000 .i32)

set_option maxHeartbeats 4000000 in
/-- At the first point: the scores are stored, and the two carried rows hold the first block over the reset. -/
theorem stats_first (hc0 : first0 i) (hc1 : ¬last0 i) (u v : Vec F S1x512 .f32) (K : PUnit → sProp 𝕄) :
    iprop(owns (c : Thread nD τ) a1 fullShare x
        ∗ owns (c : Thread nD τ) a2 fullShare w
        ∗ owns (c : Thread nD τ) a3 fullShare b
        ∗ (∃ d, owns (c : Thread nD τ) a4 fullShare d)
        ∗ owns (c : Thread nD τ) a5 fullShare u
        ∗ owns (c : Thread nD τ) a6 fullShare v
        ∗ (∃ d, owns (c : Thread nD τ) a7 fullShare d)
        ∗ (∃ d, owns (c : Thread nD τ) a8 fullShare d)
        ∗ (iprop(owns (c : Thread nD τ) a1 fullShare x
            ∗ owns (c : Thread nD τ) a2 fullShare w
            ∗ owns (c : Thread nD τ) a3 fullShare b
            ∗ owns (c : Thread nD τ) a4 fullShare (k0_pay6 x w)
            ∗ owns (c : Thread nD τ) a5 fullShare u
            ∗ owns (c : Thread nD τ) a6 fullShare v
            ∗ owns (c : Thread nD τ) a7 fullShare (mStep x w b mReset)
            ∗ owns (c : Thread nD τ) a8 fullShare (lStep x w b mReset lReset)) -∗ K ⟨⟩))
      ⊢ wp frame (wpE (defs₀ (F := F)) Variants.none c none) Set.univ (cc0__stats_body i a1 h1 a2 h2 a3 h3 a4 h4 a5 h5 a6 h6 a7 h7 a8 h8) K := by
  simp only [cc0__stats_body_eq_skeleton]; unfold cc0__stats_body_skel
  simp only [k0_part1_eq_skeleton]
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
  obtain rfl := h1.eq_unread hf1
  obtain rfl := h2.eq_unread hf2
  obtain rfl := h3.eq_unread hf3
  obtain rfl := h5.eq_unread hf5
  obtain rfl := h6.eq_unread hf6
  sl_exec (disch := first | sl_exact hc0 | sl_exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; swap; · iexact H4
    ipureintro
    rw [View.read_writes_eq_canon _ _ _ (View.cover_of_tiledL _ S1x1x2000.size (by sl_kernel_rfl))]
    sl_unfold_words
    rw [View.canon_cons_unit_zero (S := S1x1x2000) hz3]
    simp only [View.readAt_eq_ld, View.readCov_unit_zero (S := S1x512) _ hz2, View.readCov_unit_zero (S := S512x128) _ hz2, h1.read_unread, h2.read_unread, h3.read_unread, h5.read_unread, h6.read_unread, View.ld_unit_zero (S := S2000x128) hz2, View.ld_unit_zero (S := S128x1) hz2, View.ld_unit_zero (S := S1x512) hz2, View.ld_unit_zero (S := S512x128) hz2, View.ld_unit_zero (S := S1x1x2000) hz3, shapeCast_self]
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    rw [View.read_writes_eq_canon _ _ _ (View.cover_of_tiledL _ S1x512.size (by sl_kernel_rfl))]
    sl_unfold_words
    rw [View.canon_cons_unit_zero (S := S1x512) hz2]
    simp only [mStep, k0_pay2, mReset, View.readAt_eq_ld, View.readCov_unit_zero (S := S1x512) _ hz2, View.readCov_unit_zero (S := S512x128) _ hz2, h1.read_unread, h2.read_unread, h3.read_unread, h5.read_unread, h6.read_unread, View.ld_unit_zero (S := S2000x128) hz2, View.ld_unit_zero (S := S128x1) hz2, View.ld_unit_zero (S := S1x512) hz2, View.ld_unit_zero (S := S512x128) hz2, View.ld_unit_zero (S := S1x1x2000) hz3, shapeCast_self]
  · iexists _; isplitr; swap; · iexact H8
    ipureintro
    rw [View.read_writes_eq_canon _ _ _ (View.cover_of_tiledL _ S1x512.size (by sl_kernel_rfl))]
    sl_unfold_words
    rw [View.canon_cons_unit_zero (S := S1x512) hz2]
    simp only [lStep, k0_pay1, mReset, lReset, View.readAt_eq_ld, View.readCov_unit_zero (S := S1x512) _ hz2, View.readCov_unit_zero (S := S512x128) _ hz2, h1.read_unread, h2.read_unread, h3.read_unread, h5.read_unread, h6.read_unread, View.ld_unit_zero (S := S2000x128) hz2, View.ld_unit_zero (S := S128x1) hz2, View.ld_unit_zero (S := S1x512) hz2, View.ld_unit_zero (S := S512x128) hz2, View.ld_unit_zero (S := S1x1x2000) hz3, shapeCast_self]

set_option maxHeartbeats 4000000 in
/-- At a point that is neither the first nor the last: the scores are stored and the two carried rows are updated. -/
theorem stats_mid (hc0 : ¬first0 i) (hc1 : ¬last0 i) (m l u v : Vec F S1x512 .f32) (K : PUnit → sProp 𝕄) :
    iprop(owns (c : Thread nD τ) a1 fullShare x
        ∗ owns (c : Thread nD τ) a2 fullShare w
        ∗ owns (c : Thread nD τ) a3 fullShare b
        ∗ (∃ d, owns (c : Thread nD τ) a4 fullShare d)
        ∗ owns (c : Thread nD τ) a5 fullShare u
        ∗ owns (c : Thread nD τ) a6 fullShare v
        ∗ owns (c : Thread nD τ) a7 fullShare m
        ∗ owns (c : Thread nD τ) a8 fullShare l
        ∗ (iprop(owns (c : Thread nD τ) a1 fullShare x
            ∗ owns (c : Thread nD τ) a2 fullShare w
            ∗ owns (c : Thread nD τ) a3 fullShare b
            ∗ owns (c : Thread nD τ) a4 fullShare (k0_pay6 x w)
            ∗ owns (c : Thread nD τ) a5 fullShare u
            ∗ owns (c : Thread nD τ) a6 fullShare v
            ∗ owns (c : Thread nD τ) a7 fullShare (mStep x w b m)
            ∗ owns (c : Thread nD τ) a8 fullShare (lStep x w b m l)) -∗ K ⟨⟩))
      ⊢ wp frame (wpE (defs₀ (F := F)) Variants.none c none) Set.univ (cc0__stats_body i a1 h1 a2 h2 a3 h3 a4 h4 a5 h5 a6 h6 a7 h7 a8 h8) K := by
  simp only [cc0__stats_body_eq_skeleton]; unfold cc0__stats_body_skel
  simp only [k0_part1_eq_skeleton]
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
  obtain rfl := h1.eq_unread hf1
  obtain rfl := h2.eq_unread hf2
  obtain rfl := h3.eq_unread hf3
  obtain rfl := h5.eq_unread hf5
  obtain rfl := h6.eq_unread hf6
  obtain rfl := h7.eq_unread hf7
  obtain rfl := h8.eq_unread hf8
  sl_exec (disch := first | sl_exact hc0 | sl_exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; swap; · iexact H4
    ipureintro
    rw [View.read_writes_eq_canon _ _ _ (View.cover_of_tiledL _ S1x1x2000.size (by sl_kernel_rfl))]
    sl_unfold_words
    rw [View.canon_cons_unit_zero (S := S1x1x2000) hz3]
    simp only [View.readAt_eq_ld, View.readCov_unit_zero (S := S1x512) _ hz2, View.readCov_unit_zero (S := S512x128) _ hz2, h1.read_unread, h2.read_unread, h3.read_unread, h5.read_unread, h6.read_unread, h7.read_unread, h8.read_unread, View.ld_unit_zero (S := S2000x128) hz2, View.ld_unit_zero (S := S128x1) hz2, View.ld_unit_zero (S := S1x512) hz2, View.ld_unit_zero (S := S512x128) hz2, View.ld_unit_zero (S := S1x1x2000) hz3, shapeCast_self]
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    rw [View.read_writes_eq_canon _ _ _ (View.cover_of_tiledL _ S1x512.size (by sl_kernel_rfl))]
    sl_unfold_words
    rw [View.canon_cons_unit_zero (S := S1x512) hz2]
    simp only [mStep, k0_pay2, View.readAt_eq_ld, View.readCov_unit_zero (S := S1x512) _ hz2, View.readCov_unit_zero (S := S512x128) _ hz2, h1.read_unread, h2.read_unread, h3.read_unread, h5.read_unread, h6.read_unread, h7.read_unread, h8.read_unread, View.ld_unit_zero (S := S2000x128) hz2, View.ld_unit_zero (S := S128x1) hz2, View.ld_unit_zero (S := S1x512) hz2, View.ld_unit_zero (S := S512x128) hz2, View.ld_unit_zero (S := S1x1x2000) hz3, shapeCast_self]
  · iexists _; isplitr; swap; · iexact H8
    ipureintro
    rw [View.read_writes_eq_canon _ _ _ (View.cover_of_tiledL _ S1x512.size (by sl_kernel_rfl))]
    sl_unfold_words
    rw [View.canon_cons_unit_zero (S := S1x512) hz2]
    simp only [lStep, k0_pay1, View.readAt_eq_ld, View.readCov_unit_zero (S := S1x512) _ hz2, View.readCov_unit_zero (S := S512x128) _ hz2, h1.read_unread, h2.read_unread, h3.read_unread, h5.read_unread, h6.read_unread, h7.read_unread, h8.read_unread, View.ld_unit_zero (S := S2000x128) hz2, View.ld_unit_zero (S := S128x1) hz2, View.ld_unit_zero (S := S1x512) hz2, View.ld_unit_zero (S := S512x128) hz2, View.ld_unit_zero (S := S1x1x2000) hz3, shapeCast_self]

set_option maxHeartbeats 4000000 in
/-- At the last point: the same, and the two row outputs take the updated rows. -/
theorem stats_last (hc0 : ¬first0 i) (hc1 : last0 i) (m l : Vec F S1x512 .f32) (K : PUnit → sProp 𝕄) :
    iprop(owns (c : Thread nD τ) a1 fullShare x
        ∗ owns (c : Thread nD τ) a2 fullShare w
        ∗ owns (c : Thread nD τ) a3 fullShare b
        ∗ (∃ d, owns (c : Thread nD τ) a4 fullShare d)
        ∗ (∃ d, owns (c : Thread nD τ) a5 fullShare d)
        ∗ (∃ d, owns (c : Thread nD τ) a6 fullShare d)
        ∗ owns (c : Thread nD τ) a7 fullShare m
        ∗ owns (c : Thread nD τ) a8 fullShare l
        ∗ (iprop(owns (c : Thread nD τ) a1 fullShare x
            ∗ owns (c : Thread nD τ) a2 fullShare w
            ∗ owns (c : Thread nD τ) a3 fullShare b
            ∗ owns (c : Thread nD τ) a4 fullShare (k0_pay6 x w)
            ∗ owns (c : Thread nD τ) a5 fullShare (mStep x w b m)
            ∗ owns (c : Thread nD τ) a6 fullShare (lStep x w b m l)
            ∗ owns (c : Thread nD τ) a7 fullShare (mStep x w b m)
            ∗ owns (c : Thread nD τ) a8 fullShare (lStep x w b m l)) -∗ K ⟨⟩))
      ⊢ wp frame (wpE (defs₀ (F := F)) Variants.none c none) Set.univ (cc0__stats_body i a1 h1 a2 h2 a3 h3 a4 h4 a5 h5 a6 h6 a7 h7 a8 h8) K := by
  simp only [cc0__stats_body_eq_skeleton]; unfold cc0__stats_body_skel
  simp only [k0_part1_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  obtain rfl := h1.eq_unread hf1
  obtain rfl := h2.eq_unread hf2
  obtain rfl := h3.eq_unread hf3
  obtain rfl := h7.eq_unread hf7
  obtain rfl := h8.eq_unread hf8
  sl_exec (disch := first | sl_exact hc0 | sl_exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; swap; · iexact H4
    ipureintro
    rw [View.read_writes_eq_canon _ _ _ (View.cover_of_tiledL _ S1x1x2000.size (by sl_kernel_rfl))]
    sl_unfold_words
    rw [View.canon_cons_unit_zero (S := S1x1x2000) hz3]
    simp only [View.readAt_eq_ld, View.readCov_unit_zero (S := S1x512) _ hz2, View.readCov_unit_zero (S := S512x128) _ hz2, h1.read_unread, h2.read_unread, h3.read_unread, h7.read_unread, h8.read_unread, View.ld_unit_zero (S := S2000x128) hz2, View.ld_unit_zero (S := S128x1) hz2, View.ld_unit_zero (S := S1x512) hz2, View.ld_unit_zero (S := S512x128) hz2, View.ld_unit_zero (S := S1x1x2000) hz3, shapeCast_self]
  isplitl [H5]
  · iexists _; isplitr; swap; · iexact H5
    ipureintro
    rw [View.read_writes_eq_canon _ _ _ (View.cover_of_tiledL _ S1x512.size (by sl_kernel_rfl))]
    sl_unfold_words
    rw [View.canon_cons_unit_zero (S := S1x512) hz2]
    simp only [mStep, k0_pay2, View.readAt_eq_ld, View.readCov_unit_zero (S := S1x512) _ hz2, View.readCov_unit_zero (S := S512x128) _ hz2, h1.read_unread, h2.read_unread, h3.read_unread, h7.read_unread, h8.read_unread, View.ld_unit_zero (S := S2000x128) hz2, View.ld_unit_zero (S := S128x1) hz2, View.ld_unit_zero (S := S1x512) hz2, View.ld_unit_zero (S := S512x128) hz2, View.ld_unit_zero (S := S1x1x2000) hz3, shapeCast_self]
  isplitl [H6]
  · iexists _; isplitr; swap; · iexact H6
    ipureintro
    rw [View.read_writes_eq_canon _ _ _ (View.cover_of_tiledL _ S1x512.size (by sl_kernel_rfl))]
    sl_unfold_words
    rw [View.canon_cons_unit_zero (S := S1x512) hz2]
    simp only [lStep, k0_pay1, View.readAt_eq_ld, View.readCov_unit_zero (S := S1x512) _ hz2, View.readCov_unit_zero (S := S512x128) _ hz2, h1.read_unread, h2.read_unread, h3.read_unread, h7.read_unread, h8.read_unread, View.ld_unit_zero (S := S2000x128) hz2, View.ld_unit_zero (S := S128x1) hz2, View.ld_unit_zero (S := S1x512) hz2, View.ld_unit_zero (S := S512x128) hz2, View.ld_unit_zero (S := S1x1x2000) hz3, shapeCast_self]
  isplitl [H7]
  · iexists _; isplitr; swap; · iexact H7
    ipureintro
    rw [View.read_writes_eq_canon _ _ _ (View.cover_of_tiledL _ S1x512.size (by sl_kernel_rfl))]
    sl_unfold_words
    rw [View.canon_cons_unit_zero (S := S1x512) hz2]
    simp only [mStep, k0_pay2, View.readAt_eq_ld, View.readCov_unit_zero (S := S1x512) _ hz2, View.readCov_unit_zero (S := S512x128) _ hz2, h1.read_unread, h2.read_unread, h3.read_unread, h7.read_unread, h8.read_unread, View.ld_unit_zero (S := S2000x128) hz2, View.ld_unit_zero (S := S128x1) hz2, View.ld_unit_zero (S := S1x512) hz2, View.ld_unit_zero (S := S512x128) hz2, View.ld_unit_zero (S := S1x1x2000) hz3, shapeCast_self]
  · iexists _; isplitr; swap; · iexact H8
    ipureintro
    rw [View.read_writes_eq_canon _ _ _ (View.cover_of_tiledL _ S1x512.size (by sl_kernel_rfl))]
    sl_unfold_words
    rw [View.canon_cons_unit_zero (S := S1x512) hz2]
    simp only [lStep, k0_pay1, View.readAt_eq_ld, View.readCov_unit_zero (S := S1x512) _ hz2, View.readCov_unit_zero (S := S512x128) _ hz2, h1.read_unread, h2.read_unread, h3.read_unread, h7.read_unread, h8.read_unread, View.ld_unit_zero (S := S2000x128) hz2, View.ld_unit_zero (S := S128x1) hz2, View.ld_unit_zero (S := S1x512) hz2, View.ld_unit_zero (S := S512x128) hz2, View.ld_unit_zero (S := S1x1x2000) hz3, shapeCast_self]

end Triples

end Cert.KernelIdeal.Hand

end
-- ==== Proof.Ideal.StatsPoints.lean ====
/-
  The first kernel's region: what its carried rows hold after each grid point, and that the body keeps to it at every point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Ideal.StatsBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- Window `w`'s block at point `t`, read off the arrays on entry. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, for any proof data that enters the arrays at `V` and keeps the block. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- An input window's buffer holds its block at every point, for any proof data that enters the arrays at `V` and keeps the block. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- An input window's buffer holds its block at every point, for any proof data that enters the arrays at `V` and keeps the block. -/
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The running maximum and sum rows after point `n`. -/
def rows0 (c : Dev nD) : (n : ℕ) → n < cfg0.N → Vec F S1x512 .f32 × Vec F S1x512 .f32
  | 0, h => (mStep (blk0 V c 0 ⟨0, h⟩) (blk0 V c 1 ⟨0, h⟩) (blk0 V c 2 ⟨0, h⟩) mReset, lStep (blk0 V c 0 ⟨0, h⟩) (blk0 V c 1 ⟨0, h⟩) (blk0 V c 2 ⟨0, h⟩) mReset lReset)
  | n + 1, h => (mStep (blk0 V c 0 ⟨n + 1, h⟩) (blk0 V c 1 ⟨n + 1, h⟩) (blk0 V c 2 ⟨n + 1, h⟩) (rows0 c n (by omega)).1,
      lStep (blk0 V c 0 ⟨n + 1, h⟩) (blk0 V c 1 ⟨n + 1, h⟩) (blk0 V c 2 ⟨n + 1, h⟩) (rows0 c n (by omega)).1 (rows0 c n (by omega)).2)

/-- The running maximum row after point `n`. -/
def mAt (c : Dev nD) (n : ℕ) (h : n < cfg0.N) : Vec F S1x512 .f32 := (rows0 V c n h).1
/-- The running sum row after point `n`. -/
def lAt (c : Dev nD) (n : ℕ) (h : n < cfg0.N) : Vec F S1x512 .f32 := (rows0 V c n h).2
/-- The scores stored at point `t`. -/
def sAt (c : Dev nD) (t : Fin cfg0.N) : Vec F S1x1x2000 .f32 := k0_pay6 (blk0 V c 0 t) (blk0 V c 1 t)

/-- After the first block the maxima are one step from the reset. -/
theorem mAt_zero (c : Dev nD) (t : Fin cfg0.N) (h0 : t.val = 0) : mAt V c t.val t.isLt = mStep (blk0 V c 0 t) (blk0 V c 1 t) (blk0 V c 2 t) mReset := by
  obtain ⟨n, hn⟩ := t; cases n with
  | zero => rfl
  | succ n => exact absurd h0 (Nat.succ_ne_zero n)
/-- After the first block the sums are one step from the reset. -/
theorem lAt_zero (c : Dev nD) (t : Fin cfg0.N) (h0 : t.val = 0) : lAt V c t.val t.isLt = lStep (blk0 V c 0 t) (blk0 V c 1 t) (blk0 V c 2 t) mReset lReset := by
  obtain ⟨n, hn⟩ := t; cases n with
  | zero => rfl
  | succ n => exact absurd h0 (Nat.succ_ne_zero n)
/-- After a later block the maxima are one step from the block before. -/
theorem mAt_pos (c : Dev nD) (t : Fin cfg0.N) (h0 : t.val ≠ 0) :
    mAt V c t.val t.isLt = mStep (blk0 V c 0 t) (blk0 V c 1 t) (blk0 V c 2 t) (mAt V c (t.val - 1) (by omega)) := by
  obtain ⟨n, hn⟩ := t; cases n with
  | zero => exact absurd rfl h0
  | succ n => rfl
/-- After a later block the sums are one step from the block before. -/
theorem lAt_pos (c : Dev nD) (t : Fin cfg0.N) (h0 : t.val ≠ 0) :
    lAt V c t.val t.isLt = lStep (blk0 V c 0 t) (blk0 V c 1 t) (blk0 V c 2 t) (mAt V c (t.val - 1) (by omega)) (lAt V c (t.val - 1) (by omega)) := by
  obtain ⟨n, hn⟩ := t; cases n with
  | zero => exact absurd rfl h0
  | succ n => rfl

/-- The first condition holds at point 0 only. -/
theorem first0_iff (t : Fin cfg0.N) : first0 (grid0.coords t) ↔ t.val = 0 := by
  have ht : t.val < 50 := Nat.lt_of_lt_of_eq t.isLt N_0
  have e0 : (grid0.coords t 0).val = t.val := by
    have e : (grid0.coords t 0).val = t.val / 1 % 50 := Pipeline.Grid.coords_val t 0 (by decide) rfl
    omega
  simp only [first0, e0]
  word_cmp

/-- The second condition holds at the last point only. -/
theorem last0_iff (t : Fin cfg0.N) : last0 (grid0.coords t) ↔ t.val = 49 := by
  have ht : t.val < 50 := Nat.lt_of_lt_of_eq t.isLt N_0
  have e0 : (grid0.coords t 0).val = t.val := by
    have e : (grid0.coords t 0).val = t.val / 1 % 50 := Pipeline.Grid.coords_val t 0 (by decide) rfl
    omega
  simp only [last0, k0_cond2, e0]
  word_cmp

/-- Before the last point the region leaves output window 4 alone. -/
theorem idle0_4 : ∀ t : Fin cfg0.N, t.val ≠ 49 → cfg0.idle 4 (grid0.coords t) = true := by decide +kernel
/-- The maxima are written back at the last point only. -/
theorem noFlush0_4 : ∀ t : Fin cfg0.N, t.val ≠ 49 → (cfg0.win 4).flush t = false := by decide +kernel
/-- At the last point it stores it. -/
theorem live0_4 : ∀ t : Fin cfg0.N, t.val = 49 → cfg0.idle 4 (grid0.coords t) = false := by decide +kernel

/-- Before the last point the region leaves output window 5 alone. -/
theorem idle0_5 : ∀ t : Fin cfg0.N, t.val ≠ 49 → cfg0.idle 5 (grid0.coords t) = true := by decide +kernel
/-- The sums are written back at the last point only. -/
theorem noFlush0_5 : ∀ t : Fin cfg0.N, t.val ≠ 49 → (cfg0.win 5).flush t = false := by decide +kernel
/-- At the last point it stores it. -/
theorem live0_5 : ∀ t : Fin cfg0.N, t.val = 49 → cfg0.idle 5 (grid0.coords t) = false := by decide +kernel

/-- The block of window 0 that point `t` works on. -/
abbrev ms0_0 (t : Fin cfg0.N) : Memref sig .tc .vmem S2000x128 .f32 := win0_0.stage (cfg0.slots t 0)
/-- That block of window 0 is a whole buffer. -/
abbrev hs0_0 (t : Fin cfg0.N) : (ms0_0 t).IsWhole := hstage0_0 ((cfg0.slots t 0).cast nbuf0_0)
/-- The block of window 1 that point `t` works on. -/
abbrev ms0_1 (t : Fin cfg0.N) : Memref sig .tc .vmem S128x1 .f32 := win0_1.stage (cfg0.slots t 1)
/-- That block of window 1 is a whole buffer. -/
abbrev hs0_1 (t : Fin cfg0.N) : (ms0_1 t).IsWhole := hstage0_1 ((cfg0.slots t 1).cast nbuf0_1)
/-- The block of window 2 that point `t` works on. -/
abbrev ms0_2 (t : Fin cfg0.N) : Memref sig .tc .vmem S1x1x2000 .i32 := win0_2.stage (cfg0.slots t 2)
/-- That block of window 2 is a whole buffer. -/
abbrev hs0_2 (t : Fin cfg0.N) : (ms0_2 t).IsWhole := hstage0_2 ((cfg0.slots t 2).cast nbuf0_2)
/-- The block of window 3 that point `t` works on. -/
abbrev ms0_3 (t : Fin cfg0.N) : Memref sig .tc .vmem S1x1x2000 .f32 := win0_3.stage (cfg0.slots t 3)
/-- That block of window 3 is a whole buffer. -/
abbrev hs0_3 (t : Fin cfg0.N) : (ms0_3 t).IsWhole := hstage0_3 ((cfg0.slots t 3).cast nbuf0_3)
/-- The block of window 4 that point `t` works on. -/
abbrev ms0_4 (t : Fin cfg0.N) : Memref sig .tc .vmem S1x512 .f32 := win0_4.stage (cfg0.slots t 4)
/-- That block of window 4 is a whole buffer. -/
abbrev hs0_4 (t : Fin cfg0.N) : (ms0_4 t).IsWhole := hstage0_4 ((cfg0.slots t 4).cast nbuf0_4)
/-- The block of window 5 that point `t` works on. -/
abbrev ms0_5 (t : Fin cfg0.N) : Memref sig .tc .vmem S1x512 .f32 := win0_5.stage (cfg0.slots t 5)
/-- That block of window 5 is a whole buffer. -/
abbrev hs0_5 (t : Fin cfg0.N) : (ms0_5 t).IsWhole := hstage0_5 ((cfg0.slots t 5).cast nbuf0_5)
/-- The first launch's scratch for the maxima, whole. -/
abbrev sc0_0 : Memref sig .tc .vmem S1x512 .f32 := Memref.whole cc0_scratch0
/-- The first launch's scratch for the sums, whole. -/
abbrev sc0_1 : Memref sig .tc .vmem S1x512 .f32 := Memref.whole cc0_scratch1

/-- The scoped buffers that are neither staging nor this region's carried scratch, at anything. -/
abbrev rest0 (c : Dev nD) : sProp 𝕄 := Pipeline.scopedRestBut spec0 c [cc0_scratch0, cc0_scratch1]

/-- The scoped buffers beside the staging: the carried scratch at anything, and the rest. -/
theorem scoped0_eq (c : Dev nD) : (Pipeline.scopedRest spec0 c : sProp 𝕄)
    = iprop(((∃ d, owns (c : Thread nD τ) sc0_0 fullShare d) ∗ (∃ d, owns (c : Thread nD τ) sc0_1 fullShare d)) ∗ rest0 c) := by
  refine (Pipeline.scopedRest_split_of_list spec0 c [cc0_scratch0, cc0_scratch1] (by decide) (by decide)).trans ?_
  simp only [sc0_0, sc0_1, owns_whole]
  try rfl

/-- The invariant between points: before the first the scoped buffers at anything, then the carried scratch at its running contents. -/
def inv0 (c : Dev nD) : (n : ℕ) → n ≤ cfg0.N → sProp 𝕄
  | 0, _ => iprop(Pipeline.scopedRest spec0 c ∗ (∃ r, prngReg c r))
  | n + 1, hn => iprop(((owns (c : Thread nD τ) sc0_0 fullShare (mAt V c n hn) ∗ owns (c : Thread nD τ) sc0_1 fullShare (lAt V c n hn)) ∗ rest0 c) ∗ (∃ r, prngReg c r))

/-- The invariant before the first point: nothing is known of the scratch. -/
theorem inv0_zero (c : Dev nD) (n : ℕ) (h : n ≤ cfg0.N) (hz : n = 0) : inv0 V c n h = iprop(Pipeline.scopedRest spec0 c ∗ (∃ r, prngReg c r)) := by
  subst hz; rfl

/-- The invariant after a point. -/
theorem inv0_succ (c : Dev nD) (n : ℕ) (hn : n < cfg0.N) :
    inv0 V c (n + 1) hn = iprop(((owns (c : Thread nD τ) sc0_0 fullShare (mAt V c n hn) ∗ owns (c : Thread nD τ) sc0_1 fullShare (lAt V c n hn)) ∗ rest0 c) ∗ (∃ r, prngReg c r)) := rfl

/-- The invariant before a later point. -/
theorem inv0_pos (c : Dev nD) (n : ℕ) (h : n ≤ cfg0.N) (hz : n ≠ 0) :
    inv0 V c n h = iprop(((owns (c : Thread nD τ) sc0_0 fullShare (mAt V c (n - 1) (by omega)) ∗ owns (c : Thread nD τ) sc0_1 fullShare (lAt V c (n - 1) (by omega))) ∗ rest0 c) ∗ (∃ r, prngReg c r)) := by
  cases n with
  | zero => exact absurd rfl hz
  | succ n => rfl

/-- The region's proof data: each input's buffer keeps its block, each output's takes what the body leaves. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => sAt V c t
    | ⟨4, _⟩ => mAt V c t.val t.isLt
    | ⟨5, _⟩ => lAt V c t.val t.isLt
  Φ t := inv0 V c t.val (Nat.le_of_lt_succ t.isLt)
  q _ := fullShare
  owed _ := 0

/-- The launch starts from the buffers as they stand. -/
theorem dat0_A (c : Dev nD) (w : Fin cfg0.W) : (dat0 V c).A w = V c (Pipeline.arrRef spec0 w) := by
  dsimp only [dat0]

/-- The invariant the data hold before a point. -/
theorem dat0_castSucc (c : Dev nD) (t : Fin cfg0.N) : (dat0 V c).Φ t.castSucc = inv0 V c t.val (Nat.le_of_lt t.isLt) := by
  dsimp only [dat0]; exact Pipeline.Dat.Φ_castSucc (inv0 V c) t

/-- What the body leaves in window 0's block. -/
theorem after0_0 (c : Dev nD) (t : Fin cfg0.N) : (dat0 V c).after 0 t = blk0 V c 0 t := by dsimp only [dat0]
/-- What the body leaves in window 1's block. -/
theorem after0_1 (c : Dev nD) (t : Fin cfg0.N) : (dat0 V c).after 1 t = blk0 V c 1 t := by dsimp only [dat0]
/-- What the body leaves in window 2's block. -/
theorem after0_2 (c : Dev nD) (t : Fin cfg0.N) : (dat0 V c).after 2 t = blk0 V c 2 t := by dsimp only [dat0]
/-- What the body leaves in window 3's block. -/
theorem after0_3 (c : Dev nD) (t : Fin cfg0.N) : (dat0 V c).after 3 t = sAt V c t := by dsimp only [dat0]
/-- What the body leaves in window 4's block. -/
theorem after0_4 (c : Dev nD) (t : Fin cfg0.N) : (dat0 V c).after 4 t = mAt V c t.val t.isLt := by dsimp only [dat0]
/-- What the body leaves in window 5's block. -/
theorem after0_5 (c : Dev nD) (t : Fin cfg0.N) : (dat0 V c).after 5 t = lAt V c t.val t.isLt := by dsimp only [dat0]
/-- What the body finds in window 0's block. -/
theorem before0_0 (c : Dev nD) (t : Fin cfg0.N) (d) : (dat0 V c).before 0 t d = blk0 V c 0 t :=
  before0_0_of V (dat0 V c) (dat0_A V c 0) (after0_0 V c) t d
/-- What the body finds in window 1's block. -/
theorem before0_1 (c : Dev nD) (t : Fin cfg0.N) (d) : (dat0 V c).before 1 t d = blk0 V c 1 t :=
  before0_1_of V (dat0 V c) (dat0_A V c 1) (after0_1 V c) t d
/-- What the body finds in window 2's block. -/
theorem before0_2 (c : Dev nD) (t : Fin cfg0.N) (d) : (dat0 V c).before 2 t d = blk0 V c 2 t :=
  before0_2_of V (dat0 V c) (dat0_A V c 2) (after0_2 V c) t d

/-- What the body is called with at point `t`. -/
def pre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- What the body returns at point `t`. -/
def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 9600000 in
/-- The body at any point takes what it is called with to what it returns. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2]
  rw [show (dat0 V c).owesAt () t.succ = (dat0 V c).owesAt () t.castSucc from rfl]
  rw [show (dat0 V c).Φ t.succ = inv0 V c (t.val + 1) t.isLt from rfl, inv0_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [(show cfg0.idle 0 (grid0.coords t) = false from rfl)], after0_0]
  rw [show (dat0 V c).leavesExact 1 t = owns (c : Thread nD τ) (ms0_1 t) fullShare ((dat0 V c).after 1 t) from by
    unfold Dat.leavesExact; rw [(show cfg0.idle 1 (grid0.coords t) = false from rfl)], after0_1]
  rw [show (dat0 V c).leavesExact 2 t = owns (c : Thread nD τ) (ms0_2 t) fullShare ((dat0 V c).after 2 t) from by
    unfold Dat.leavesExact; rw [(show cfg0.idle 2 (grid0.coords t) = false from rfl)], after0_2]
  rw [show (dat0 V c).leavesExact 3 t = owns (c : Thread nD τ) (ms0_3 t) fullShare ((dat0 V c).after 3 t) from by
    unfold Dat.leavesExact; rw [(show cfg0.idle 3 (grid0.coords t) = false from rfl)], after0_3]
  by_cases h0 : t.val = 0
  · have h1 : t.val ≠ 49 := by omega
    rw [Dat.leavesExact_idle (dat0 V c) 4 t (idle0_4 t h1) (noFlush0_4 t h1)]
    rw [Dat.leavesExact_idle (dat0 V c) 5 t (idle0_5 t h1) (noFlush0_5 t h1)]
    rw [dat0_castSucc V c t, inv0_zero V c _ _ h0, scoped0_eq]
    rw [mAt_zero V c t h0, lAt_zero V c t h0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
    iapply (stats_first c (grid0.coords t) _ _ _ _ _ _ _ _ _ _ _ _ _ (Memref.isWhole_whole _) _ (Memref.isWhole_whole _) (blk0 V c 0 t) (blk0 V c 1 t) (blk0 V c 2 t) ((first0_iff t).mpr h0) (fun h => h1 ((last0_iff t).mp h)) _ _ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h1 : t.val = 49
    · rw [show (dat0 V c).leavesExact 4 t = owns (c : Thread nD τ) (ms0_4 t) fullShare ((dat0 V c).after 4 t) from by
        unfold Dat.leavesExact; rw [live0_4 t h1], after0_4]
      rw [show (dat0 V c).leavesExact 5 t = owns (c : Thread nD τ) (ms0_5 t) fullShare ((dat0 V c).after 5 t) from by
        unfold Dat.leavesExact; rw [live0_5 t h1], after0_5]
      rw [dat0_castSucc V c t, inv0_pos V c _ _ h0]
      rw [mAt_pos V c t h0, lAt_pos V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply (stats_last c (grid0.coords t) _ _ _ _ _ _ _ _ _ _ _ _ _ (Memref.isWhole_whole _) _ (Memref.isWhole_whole _) (blk0 V c 0 t) (blk0 V c 1 t) (blk0 V c 2 t) (fun h => h0 ((first0_iff t).mp h)) ((last0_iff t).mpr h1) _ _ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 4 t (idle0_4 t h1) (noFlush0_4 t h1)]
      rw [Dat.leavesExact_idle (dat0 V c) 5 t (idle0_5 t h1) (noFlush0_5 t h1)]
      rw [dat0_castSucc V c t, inv0_pos V c _ _ h0]
      rw [mAt_pos V c t h0, lAt_pos V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply (stats_mid c (grid0.coords t) _ _ _ _ _ _ _ _ _ _ _ _ _ (Memref.isWhole_whole _) _ (Memref.isWhole_whole _) (blk0 V c 0 t) (blk0 V c 1 t) (blk0 V c 2 t) (fun h => h0 ((first0_iff t).mp h)) (fun h => h1 ((last0_iff t).mp h)) _ _ _ _ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The first launch's row of the body table. -/
theorem defs₀_row0 (t : Fin cfg0.N) :
    defs₀ (F := F) .tc cfg0.body (cfg0.bodyArgs t (cfg0.slots t)) = bodyAt0 t := by
  unfold defs₀; rw [Defs.onTc_tc]

/-- The region's body obligation. -/
theorem obligation0 (c : Dev nD) : BodyObligation (dat0 (F := F) V c) (defs₀ (F := F)) Variants.none () Set.univ := fun t => by
  rw [bigSep_W0, bigSep_W0, defs₀_row0]
  exact triple_restated (sound0 V c t) rfl .rfl fun _ => .rfl

/-- What the region is handed is the invariant before the first point. -/
theorem hin0 (c : Dev nD) : iprop(Pipeline.scopedRest spec0 c ∗ (∃ r, prngReg c r)) ⊢ (dat0 V c).Φ 0 := by
  rw [show (dat0 V c).Φ 0 = inv0 V c 0 (Nat.zero_le _) from rfl, inv0_zero V c 0 _ rfl]

/-- After the last point the invariant gives it back. -/
theorem hout0 (c : Dev nD) : (dat0 V c).Φ (Fin.last cfg0.N) ⊢ iprop(Pipeline.scopedRest spec0 c ∗ (∃ r, prngReg c r)) := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 50 := N_0; omega), scoped0_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

end Cert.KernelIdeal.Hand

end
-- ==== Proof.Ideal.ReadoutBody.lean ====
/-
  The second kernel's body at one grid point, as a triple with the values it leaves.

  The body reads a block of rows `x`, the block's segment numbers `b`, its scores `s` and the two rows `m`, `l` the first
  kernel left. It stores the rows' attention weights and adds the block's weighted rows, summed per segment, to a carried
  accumulator. At the first point it resets the accumulator. At the last point it copies it to the readout.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Ideal.StatsBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator after a block, from the one before it. -/
def accStep (x : Vec F S2000x128 .f32) (b : Vec F S1x1x2000 .i32) (s : Vec F S1x1x2000 .f32) (m l : Vec F S1x512 .f32) (acc : Vec F S512x128 .f32) : Vec F S512x128 .f32 :=
  addf acc (k1_pay6 x s b m l)

/-- The accumulator as the first point resets it. -/
def accReset : Vec F S512x128 .f32 := k1_pay2

/-- The condition of the body's first `scf.if`: the point is the first one. -/
abbrev first1 (i : grid1.Coords) : Prop :=
  (Scalar.cmpi .ne (Scalar.extui (Scalar.cmpi .eq (BitVec.ofNat 32 (i 0).val) 0#32)) 0#32) = 1#1

/-- The condition of the body's second `scf.if`: the point is the last one. -/
abbrev last1 (i : grid1.Coords) : Prop := k1_cond2 i = 1#1

section Triples

variable (c : Dev nD) (i : grid1.Coords)
  (a1 : Memref sig .tc .vmem S2000x128 .f32) (h1 : a1.IsWhole)
  (a2 : Memref sig .tc .vmem S1x1x2000 .i32) (h2 : a2.IsWhole)
  (a3 : Memref sig .tc .vmem S1x1x2000 .f32) (h3 : a3.IsWhole)
  (a4 : Memref sig .tc .vmem S1x512 .f32) (h4 : a4.IsWhole)
  (a5 : Memref sig .tc .vmem S1x512 .f32) (h5 : a5.IsWhole)
  (a6 : Memref sig .tc .vmem S1x1x2000 .f32) (h6 : a6.IsWhole)
  (a7 : Memref sig .tc .vmem S512x128 .f32) (h7 : a7.IsWhole)
  (a8 : Memref sig .tc .vmem S512x128 .f32) (h8 : a8.IsWhole)
  (x : Vec F S2000x128 .f32) (b : Vec F S1x1x2000 .i32) (s : Vec F S1x1x2000 .f32) (m l : Vec F S1x512 .f32)

set_option maxHeartbeats 4000000 in
/-- At the first point: the weights are stored, and the accumulator holds the first block over the reset. -/
theorem readout_first (hc0 : first1 i) (hc1 : ¬last1 i) (u : Vec F S512x128 .f32) (K : PUnit → sProp 𝕄) :
    iprop(owns (c : Thread nD τ) a1 fullShare x
        ∗ owns (c : Thread nD τ) a2 fullShare b
        ∗ owns (c : Thread nD τ) a3 fullShare s
        ∗ owns (c : Thread nD τ) a4 fullShare m
        ∗ owns (c : Thread nD τ) a5 fullShare l
        ∗ (∃ d, owns (c : Thread nD τ) a6 fullShare d)
        ∗ owns (c : Thread nD τ) a7 fullShare u
        ∗ (∃ d, owns (c : Thread nD τ) a8 fullShare d)
        ∗ (iprop(owns (c : Thread nD τ) a1 fullShare x
            ∗ owns (c : Thread nD τ) a2 fullShare b
            ∗ owns (c : Thread nD τ) a3 fullShare s
            ∗ owns (c : Thread nD τ) a4 fullShare m
            ∗ owns (c : Thread nD τ) a5 fullShare l
            ∗ owns (c : Thread nD τ) a6 fullShare (k1_pay5 s b m l)
            ∗ owns (c : Thread nD τ) a7 fullShare u
            ∗ owns (c : Thread nD τ) a8 fullShare (accStep x b s m l accReset)) -∗ K ⟨⟩))
      ⊢ wp frame (wpE (defs₀ (F := F)) Variants.none c none) Set.univ (cc1__readout_body i a1 h1 a2 h2 a3 h3 a4 h4 a5 h5 a6 h6 a7 h7 a8 h8) K := by
  simp only [cc1__readout_body_eq_skeleton]; unfold cc1__readout_body_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
  obtain rfl := h1.eq_unread hf1
  obtain rfl := h2.eq_unread hf2
  obtain rfl := h3.eq_unread hf3
  obtain rfl := h4.eq_unread hf4
  obtain rfl := h5.eq_unread hf5
  obtain rfl := h7.eq_unread hf7
  sl_exec (disch := first | sl_exact hc0 | sl_exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro
    rw [View.read_writes_eq_canon _ _ _ (View.cover_of_tiledL _ S1x1x2000.size (by sl_kernel_rfl))]
    sl_unfold_words
    rw [View.canon_cons_unit_zero (S := S1x1x2000) hz3]
    simp only [View.readAt_eq_ld, View.readCov_unit_zero (S := S1x512) _ hz2, View.readCov_unit_zero (S := S512x128) _ hz2, h1.read_unread, h2.read_unread, h3.read_unread, h4.read_unread, h5.read_unread, h7.read_unread, View.ld_unit_zero (S := S2000x128) hz2, View.ld_unit_zero (S := S128x1) hz2, View.ld_unit_zero (S := S1x512) hz2, View.ld_unit_zero (S := S512x128) hz2, View.ld_unit_zero (S := S1x1x2000) hz3, shapeCast_self]
  isplitl [H7]
  · iexists _; isplitr; · ipureintro; exact h7.read_unread _
    iexact H7
  · iexists _; isplitr; swap; · iexact H8
    ipureintro
    rw [View.read_writes_eq_canon _ _ _ (View.cover_of_tiledL _ S512x128.size (by sl_kernel_rfl))]
    sl_unfold_words
    rw [View.canon_cons_unit_zero (S := S512x128) hz2]
    simp only [accStep, k1_pay1, accReset, View.readAt_eq_ld, View.readCov_unit_zero (S := S1x512) _ hz2, View.readCov_unit_zero (S := S512x128) _ hz2, h1.read_unread, h2.read_unread, h3.read_unread, h4.read_unread, h5.read_unread, h7.read_unread, View.ld_unit_zero (S := S2000x128) hz2, View.ld_unit_zero (S := S128x1) hz2, View.ld_unit_zero (S := S1x512) hz2, View.ld_unit_zero (S := S512x128) hz2, View.ld_unit_zero (S := S1x1x2000) hz3, shapeCast_self]

set_option maxHeartbeats 4000000 in
/-- At a point that is neither the first nor the last: the weights are stored and the accumulator is updated. -/
theorem readout_mid (hc0 : ¬first1 i) (hc1 : ¬last1 i) (acc u : Vec F S512x128 .f32) (K : PUnit → sProp 𝕄) :
    iprop(owns (c : Thread nD τ) a1 fullShare x
        ∗ owns (c : Thread nD τ) a2 fullShare b
        ∗ owns (c : Thread nD τ) a3 fullShare s
        ∗ owns (c : Thread nD τ) a4 fullShare m
        ∗ owns (c : Thread nD τ) a5 fullShare l
        ∗ (∃ d, owns (c : Thread nD τ) a6 fullShare d)
        ∗ owns (c : Thread nD τ) a7 fullShare u
        ∗ owns (c : Thread nD τ) a8 fullShare acc
        ∗ (iprop(owns (c : Thread nD τ) a1 fullShare x
            ∗ owns (c : Thread nD τ) a2 fullShare b
            ∗ owns (c : Thread nD τ) a3 fullShare s
            ∗ owns (c : Thread nD τ) a4 fullShare m
            ∗ owns (c : Thread nD τ) a5 fullShare l
            ∗ owns (c : Thread nD τ) a6 fullShare (k1_pay5 s b m l)
            ∗ owns (c : Thread nD τ) a7 fullShare u
            ∗ owns (c : Thread nD τ) a8 fullShare (accStep x b s m l acc)) -∗ K ⟨⟩))
      ⊢ wp frame (wpE (defs₀ (F := F)) Variants.none c none) Set.univ (cc1__readout_body i a1 h1 a2 h2 a3 h3 a4 h4 a5 h5 a6 h6 a7 h7 a8 h8) K := by
  simp only [cc1__readout_body_eq_skeleton]; unfold cc1__readout_body_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := h1.eq_unread hf1
  obtain rfl := h2.eq_unread hf2
  obtain rfl := h3.eq_unread hf3
  obtain rfl := h4.eq_unread hf4
  obtain rfl := h5.eq_unread hf5
  obtain rfl := h7.eq_unread hf7
  obtain rfl := h8.eq_unread hf8
  sl_exec (disch := first | sl_exact hc0 | sl_exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro
    rw [View.read_writes_eq_canon _ _ _ (View.cover_of_tiledL _ S1x1x2000.size (by sl_kernel_rfl))]
    sl_unfold_words
    rw [View.canon_cons_unit_zero (S := S1x1x2000) hz3]
    simp only [View.readAt_eq_ld, View.readCov_unit_zero (S := S1x512) _ hz2, View.readCov_unit_zero (S := S512x128) _ hz2, h1.read_unread, h2.read_unread, h3.read_unread, h4.read_unread, h5.read_unread, h7.read_unread, h8.read_unread, View.ld_unit_zero (S := S2000x128) hz2, View.ld_unit_zero (S := S128x1) hz2, View.ld_unit_zero (S := S1x512) hz2, View.ld_unit_zero (S := S512x128) hz2, View.ld_unit_zero (S := S1x1x2000) hz3, shapeCast_self]
  isplitl [H7]
  · iexists _; isplitr; · ipureintro; exact h7.read_unread _
    iexact H7
  · iexists _; isplitr; swap; · iexact H8
    ipureintro
    rw [View.read_writes_eq_canon _ _ _ (View.cover_of_tiledL _ S512x128.size (by sl_kernel_rfl))]
    sl_unfold_words
    rw [View.canon_cons_unit_zero (S := S512x128) hz2]
    simp only [accStep, k1_pay1, View.readAt_eq_ld, View.readCov_unit_zero (S := S1x512) _ hz2, View.readCov_unit_zero (S := S512x128) _ hz2, h1.read_unread, h2.read_unread, h3.read_unread, h4.read_unread, h5.read_unread, h7.read_unread, h8.read_unread, View.ld_unit_zero (S := S2000x128) hz2, View.ld_unit_zero (S := S128x1) hz2, View.ld_unit_zero (S := S1x512) hz2, View.ld_unit_zero (S := S512x128) hz2, View.ld_unit_zero (S := S1x1x2000) hz3, shapeCast_self]

set_option maxHeartbeats 4000000 in
/-- At the last point: the same, and the readout takes the updated accumulator. -/
theorem readout_last (hc0 : ¬first1 i) (hc1 : last1 i) (acc : Vec F S512x128 .f32) (K : PUnit → sProp 𝕄) :
    iprop(owns (c : Thread nD τ) a1 fullShare x
        ∗ owns (c : Thread nD τ) a2 fullShare b
        ∗ owns (c : Thread nD τ) a3 fullShare s
        ∗ owns (c : Thread nD τ) a4 fullShare m
        ∗ owns (c : Thread nD τ) a5 fullShare l
        ∗ (∃ d, owns (c : Thread nD τ) a6 fullShare d)
        ∗ (∃ d, owns (c : Thread nD τ) a7 fullShare d)
        ∗ owns (c : Thread nD τ) a8 fullShare acc
        ∗ (iprop(owns (c : Thread nD τ) a1 fullShare x
            ∗ owns (c : Thread nD τ) a2 fullShare b
            ∗ owns (c : Thread nD τ) a3 fullShare s
            ∗ owns (c : Thread nD τ) a4 fullShare m
            ∗ owns (c : Thread nD τ) a5 fullShare l
            ∗ owns (c : Thread nD τ) a6 fullShare (k1_pay5 s b m l)
            ∗ owns (c : Thread nD τ) a7 fullShare (accStep x b s m l acc)
            ∗ owns (c : Thread nD τ) a8 fullShare (accStep x b s m l acc)) -∗ K ⟨⟩))
      ⊢ wp frame (wpE (defs₀ (F := F)) Variants.none c none) Set.univ (cc1__readout_body i a1 h1 a2 h2 a3 h3 a4 h4 a5 h5 a6 h6 a7 h7 a8 h8) K := by
  simp only [cc1__readout_body_eq_skeleton]; unfold cc1__readout_body_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := h1.eq_unread hf1
  obtain rfl := h2.eq_unread hf2
  obtain rfl := h3.eq_unread hf3
  obtain rfl := h4.eq_unread hf4
  obtain rfl := h5.eq_unread hf5
  obtain rfl := h8.eq_unread hf8
  sl_exec (disch := first | sl_exact hc0 | sl_exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro
    rw [View.read_writes_eq_canon _ _ _ (View.cover_of_tiledL _ S1x1x2000.size (by sl_kernel_rfl))]
    sl_unfold_words
    rw [View.canon_cons_unit_zero (S := S1x1x2000) hz3]
    simp only [View.readAt_eq_ld, View.readCov_unit_zero (S := S1x512) _ hz2, View.readCov_unit_zero (S := S512x128) _ hz2, h1.read_unread, h2.read_unread, h3.read_unread, h4.read_unread, h5.read_unread, h8.read_unread, View.ld_unit_zero (S := S2000x128) hz2, View.ld_unit_zero (S := S128x1) hz2, View.ld_unit_zero (S := S1x512) hz2, View.ld_unit_zero (S := S512x128) hz2, View.ld_unit_zero (S := S1x1x2000) hz3, shapeCast_self]
  isplitl [H7]
  · iexists _; isplitr; swap; · iexact H7
    ipureintro
    rw [View.read_writes_eq_canon _ _ _ (View.cover_of_tiledL _ S512x128.size (by sl_kernel_rfl))]
    sl_unfold_words
    rw [View.canon_cons_unit_zero (S := S512x128) hz2]
    simp only [accStep, k1_pay1, View.readAt_eq_ld, View.readCov_unit_zero (S := S1x512) _ hz2, View.readCov_unit_zero (S := S512x128) _ hz2, h1.read_unread, h2.read_unread, h3.read_unread, h4.read_unread, h5.read_unread, h8.read_unread, View.ld_unit_zero (S := S2000x128) hz2, View.ld_unit_zero (S := S128x1) hz2, View.ld_unit_zero (S := S1x512) hz2, View.ld_unit_zero (S := S512x128) hz2, View.ld_unit_zero (S := S1x1x2000) hz3, shapeCast_self]
  · iexists _; isplitr; swap; · iexact H8
    ipureintro
    rw [View.read_writes_eq_canon _ _ _ (View.cover_of_tiledL _ S512x128.size (by sl_kernel_rfl))]
    sl_unfold_words
    rw [View.canon_cons_unit_zero (S := S512x128) hz2]
    simp only [accStep, k1_pay1, View.readAt_eq_ld, View.readCov_unit_zero (S := S1x512) _ hz2, View.readCov_unit_zero (S := S512x128) _ hz2, h1.read_unread, h2.read_unread, h3.read_unread, h4.read_unread, h5.read_unread, h8.read_unread, View.ld_unit_zero (S := S2000x128) hz2, View.ld_unit_zero (S := S128x1) hz2, View.ld_unit_zero (S := S1x512) hz2, View.ld_unit_zero (S := S512x128) hz2, View.ld_unit_zero (S := S1x1x2000) hz3, shapeCast_self]

end Triples

end Cert.KernelIdeal.Hand

end
-- ==== Proof.Ideal.ReadoutPoints.lean ====
/-
  The second kernel's region: what its accumulator holds after each grid point, and that the body keeps to it at every point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Ideal.ReadoutBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- Window `w`'s block at point `t`, read off the arrays on entry. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, for any proof data that enters the arrays at `V` and keeps the block. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- An input window's buffer holds its block at every point, for any proof data that enters the arrays at `V` and keeps the block. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- An input window's buffer holds its block at every point, for any proof data that enters the arrays at `V` and keeps the block. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- An input window's buffer holds its block at every point, for any proof data that enters the arrays at `V` and keeps the block. -/
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- An input window's buffer holds its block at every point, for any proof data that enters the arrays at `V` and keeps the block. -/
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- The accumulator after point `n`. -/
def accAt (c : Dev nD) : (n : ℕ) → n < cfg1.N → Vec F S512x128 .f32
  | 0, h => accStep (blk1 V c 0 ⟨0, h⟩) (blk1 V c 1 ⟨0, h⟩) (blk1 V c 2 ⟨0, h⟩) (blk1 V c 3 ⟨0, h⟩) (blk1 V c 4 ⟨0, h⟩) accReset
  | n + 1, h => accStep (blk1 V c 0 ⟨n + 1, h⟩) (blk1 V c 1 ⟨n + 1, h⟩) (blk1 V c 2 ⟨n + 1, h⟩) (blk1 V c 3 ⟨n + 1, h⟩) (blk1 V c 4 ⟨n + 1, h⟩) (accAt c n (by omega))

/-- The attention weights stored at point `t`. -/
def wAt (c : Dev nD) (t : Fin cfg1.N) : Vec F S1x1x2000 .f32 := k1_pay5 (blk1 V c 2 t) (blk1 V c 1 t) (blk1 V c 3 t) (blk1 V c 4 t)

/-- After the first block the readout is one step from the reset. -/
theorem accAt_zero (c : Dev nD) (t : Fin cfg1.N) (h0 : t.val = 0) : accAt V c t.val t.isLt = accStep (blk1 V c 0 t) (blk1 V c 1 t) (blk1 V c 2 t) (blk1 V c 3 t) (blk1 V c 4 t) accReset := by
  obtain ⟨n, hn⟩ := t; cases n with
  | zero => rfl
  | succ n => exact absurd h0 (Nat.succ_ne_zero n)
/-- After a later block the readout is one step from the block before. -/
theorem accAt_pos (c : Dev nD) (t : Fin cfg1.N) (h0 : t.val ≠ 0) :
    accAt V c t.val t.isLt = accStep (blk1 V c 0 t) (blk1 V c 1 t) (blk1 V c 2 t) (blk1 V c 3 t) (blk1 V c 4 t) (accAt V c (t.val - 1) (by omega)) := by
  obtain ⟨n, hn⟩ := t; cases n with
  | zero => exact absurd rfl h0
  | succ n => rfl

/-- The first condition holds at point 0 only. -/
theorem first1_iff (t : Fin cfg1.N) : first1 (grid1.coords t) ↔ t.val = 0 := by
  have ht : t.val < 50 := Nat.lt_of_lt_of_eq t.isLt N_1
  have e0 : (grid1.coords t 0).val = t.val := by
    have e : (grid1.coords t 0).val = t.val / 1 % 50 := Pipeline.Grid.coords_val t 0 (by decide) rfl
    omega
  simp only [first1, e0]
  word_cmp

/-- The second condition holds at the last point only. -/
theorem last1_iff (t : Fin cfg1.N) : last1 (grid1.coords t) ↔ t.val = 49 := by
  have ht : t.val < 50 := Nat.lt_of_lt_of_eq t.isLt N_1
  have e0 : (grid1.coords t 0).val = t.val := by
    have e : (grid1.coords t 0).val = t.val / 1 % 50 := Pipeline.Grid.coords_val t 0 (by decide) rfl
    omega
  simp only [last1, k1_cond2, e0]
  word_cmp

/-- Before the last point the region leaves output window 6 alone. -/
theorem idle1_6 : ∀ t : Fin cfg1.N, t.val ≠ 49 → cfg1.idle 6 (grid1.coords t) = true := by decide +kernel
/-- The readout is written back at the last point only. -/
theorem noFlush1_6 : ∀ t : Fin cfg1.N, t.val ≠ 49 → (cfg1.win 6).flush t = false := by decide +kernel
/-- At the last point it stores it. -/
theorem live1_6 : ∀ t : Fin cfg1.N, t.val = 49 → cfg1.idle 6 (grid1.coords t) = false := by decide +kernel

/-- The block of window 0 that point `t` works on. -/
abbrev ms1_0 (t : Fin cfg1.N) : Memref sig .tc .vmem S2000x128 .f32 := win1_0.stage (cfg1.slots t 0)
/-- That block of window 0 is a whole buffer. -/
abbrev hs1_0 (t : Fin cfg1.N) : (ms1_0 t).IsWhole := hstage1_0 ((cfg1.slots t 0).cast nbuf1_0)
/-- The block of window 1 that point `t` works on. -/
abbrev ms1_1 (t : Fin cfg1.N) : Memref sig .tc .vmem S1x1x2000 .i32 := win1_1.stage (cfg1.slots t 1)
/-- That block of window 1 is a whole buffer. -/
abbrev hs1_1 (t : Fin cfg1.N) : (ms1_1 t).IsWhole := hstage1_1 ((cfg1.slots t 1).cast nbuf1_1)
/-- The block of window 2 that point `t` works on. -/
abbrev ms1_2 (t : Fin cfg1.N) : Memref sig .tc .vmem S1x1x2000 .f32 := win1_2.stage (cfg1.slots t 2)
/-- That block of window 2 is a whole buffer. -/
abbrev hs1_2 (t : Fin cfg1.N) : (ms1_2 t).IsWhole := hstage1_2 ((cfg1.slots t 2).cast nbuf1_2)
/-- The block of window 3 that point `t` works on. -/
abbrev ms1_3 (t : Fin cfg1.N) : Memref sig .tc .vmem S1x512 .f32 := win1_3.stage (cfg1.slots t 3)
/-- That block of window 3 is a whole buffer. -/
abbrev hs1_3 (t : Fin cfg1.N) : (ms1_3 t).IsWhole := hstage1_3 ((cfg1.slots t 3).cast nbuf1_3)
/-- The block of window 4 that point `t` works on. -/
abbrev ms1_4 (t : Fin cfg1.N) : Memref sig .tc .vmem S1x512 .f32 := win1_4.stage (cfg1.slots t 4)
/-- That block of window 4 is a whole buffer. -/
abbrev hs1_4 (t : Fin cfg1.N) : (ms1_4 t).IsWhole := hstage1_4 ((cfg1.slots t 4).cast nbuf1_4)
/-- The block of window 5 that point `t` works on. -/
abbrev ms1_5 (t : Fin cfg1.N) : Memref sig .tc .vmem S1x1x2000 .f32 := win1_5.stage (cfg1.slots t 5)
/-- That block of window 5 is a whole buffer. -/
abbrev hs1_5 (t : Fin cfg1.N) : (ms1_5 t).IsWhole := hstage1_5 ((cfg1.slots t 5).cast nbuf1_5)
/-- The block of window 6 that point `t` works on. -/
abbrev ms1_6 (t : Fin cfg1.N) : Memref sig .tc .vmem S512x128 .f32 := win1_6.stage (cfg1.slots t 6)
/-- That block of window 6 is a whole buffer. -/
abbrev hs1_6 (t : Fin cfg1.N) : (ms1_6 t).IsWhole := hstage1_6 ((cfg1.slots t 6).cast nbuf1_6)
/-- The second launch's scratch, whole. -/
abbrev sc1_0 : Memref sig .tc .vmem S512x128 .f32 := Memref.whole cc1_scratch0

/-- The scoped buffers that are neither staging nor this region's carried scratch, at anything. -/
abbrev rest1 (c : Dev nD) : sProp 𝕄 := Pipeline.scopedRestBut spec1 c [cc1_scratch0]

/-- The scoped buffers beside the staging: the carried scratch at anything, and the rest. -/
theorem scoped1_eq (c : Dev nD) : (Pipeline.scopedRest spec1 c : sProp 𝕄)
    = iprop((∃ d, owns (c : Thread nD τ) sc1_0 fullShare d) ∗ rest1 c) := by
  refine (Pipeline.scopedRest_split_of_list spec1 c [cc1_scratch0] (by decide) (by decide)).trans ?_
  simp only [sc1_0, owns_whole]
  try rfl

/-- The invariant between points: before the first the scoped buffers at anything, then the carried scratch at its running contents. -/
def inv1 (c : Dev nD) : (n : ℕ) → n ≤ cfg1.N → sProp 𝕄
  | 0, _ => iprop(Pipeline.scopedRest spec1 c ∗ (∃ r, prngReg c r))
  | n + 1, hn => iprop((owns (c : Thread nD τ) sc1_0 fullShare (accAt V c n hn) ∗ rest1 c) ∗ (∃ r, prngReg c r))

/-- The invariant before the first point: nothing is known of the scratch. -/
theorem inv1_zero (c : Dev nD) (n : ℕ) (h : n ≤ cfg1.N) (hz : n = 0) : inv1 V c n h = iprop(Pipeline.scopedRest spec1 c ∗ (∃ r, prngReg c r)) := by
  subst hz; rfl

/-- The invariant after a point. -/
theorem inv1_succ (c : Dev nD) (n : ℕ) (hn : n < cfg1.N) :
    inv1 V c (n + 1) hn = iprop((owns (c : Thread nD τ) sc1_0 fullShare (accAt V c n hn) ∗ rest1 c) ∗ (∃ r, prngReg c r)) := rfl

/-- The invariant before a later point. -/
theorem inv1_pos (c : Dev nD) (n : ℕ) (h : n ≤ cfg1.N) (hz : n ≠ 0) :
    inv1 V c n h = iprop((owns (c : Thread nD τ) sc1_0 fullShare (accAt V c (n - 1) (by omega)) ∗ rest1 c) ∗ (∃ r, prngReg c r)) := by
  cases n with
  | zero => exact absurd rfl hz
  | succ n => rfl

/-- The region's proof data: each input's buffer keeps its block, each output's takes what the body leaves. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => wAt V c t
    | ⟨6, _⟩ => accAt V c t.val t.isLt
  Φ t := inv1 V c t.val (Nat.le_of_lt_succ t.isLt)
  q _ := fullShare
  owed _ := 0

/-- The launch starts from the buffers as they stand. -/
theorem dat1_A (c : Dev nD) (w : Fin cfg1.W) : (dat1 V c).A w = V c (Pipeline.arrRef spec1 w) := by
  dsimp only [dat1]

/-- The invariant the data hold before a point. -/
theorem dat1_castSucc (c : Dev nD) (t : Fin cfg1.N) : (dat1 V c).Φ t.castSucc = inv1 V c t.val (Nat.le_of_lt t.isLt) := by
  dsimp only [dat1]; exact Pipeline.Dat.Φ_castSucc (inv1 V c) t

/-- What the body leaves in window 0's block. -/
theorem after1_0 (c : Dev nD) (t : Fin cfg1.N) : (dat1 V c).after 0 t = blk1 V c 0 t := by dsimp only [dat1]
/-- What the body leaves in window 1's block. -/
theorem after1_1 (c : Dev nD) (t : Fin cfg1.N) : (dat1 V c).after 1 t = blk1 V c 1 t := by dsimp only [dat1]
/-- What the body leaves in window 2's block. -/
theorem after1_2 (c : Dev nD) (t : Fin cfg1.N) : (dat1 V c).after 2 t = blk1 V c 2 t := by dsimp only [dat1]
/-- What the body leaves in window 3's block. -/
theorem after1_3 (c : Dev nD) (t : Fin cfg1.N) : (dat1 V c).after 3 t = blk1 V c 3 t := by dsimp only [dat1]
/-- What the body leaves in window 4's block. -/
theorem after1_4 (c : Dev nD) (t : Fin cfg1.N) : (dat1 V c).after 4 t = blk1 V c 4 t := by dsimp only [dat1]
/-- What the body leaves in window 5's block. -/
theorem after1_5 (c : Dev nD) (t : Fin cfg1.N) : (dat1 V c).after 5 t = wAt V c t := by dsimp only [dat1]
/-- What the body leaves in window 6's block. -/
theorem after1_6 (c : Dev nD) (t : Fin cfg1.N) : (dat1 V c).after 6 t = accAt V c t.val t.isLt := by dsimp only [dat1]
/-- What the body finds in window 0's block. -/
theorem before1_0 (c : Dev nD) (t : Fin cfg1.N) (d) : (dat1 V c).before 0 t d = blk1 V c 0 t :=
  before1_0_of V (dat1 V c) (dat1_A V c 0) (after1_0 V c) t d
/-- What the body finds in window 1's block. -/
theorem before1_1 (c : Dev nD) (t : Fin cfg1.N) (d) : (dat1 V c).before 1 t d = blk1 V c 1 t :=
  before1_1_of V (dat1 V c) (dat1_A V c 1) (after1_1 V c) t d
/-- What the body finds in window 2's block. -/
theorem before1_2 (c : Dev nD) (t : Fin cfg1.N) (d) : (dat1 V c).before 2 t d = blk1 V c 2 t :=
  before1_2_of V (dat1 V c) (dat1_A V c 2) (after1_2 V c) t d
/-- What the body finds in window 3's block. -/
theorem before1_3 (c : Dev nD) (t : Fin cfg1.N) (d) : (dat1 V c).before 3 t d = blk1 V c 3 t :=
  before1_3_of V (dat1 V c) (dat1_A V c 3) (after1_3 V c) t d
/-- What the body finds in window 4's block. -/
theorem before1_4 (c : Dev nD) (t : Fin cfg1.N) (d) : (dat1 V c).before 4 t d = blk1 V c 4 t :=
  before1_4_of V (dat1 V c) (dat1_A V c 4) (after1_4 V c) t d

/-- What the body is called with at point `t`. -/
def pre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- What the body returns at point `t`. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 9600000 in
/-- The body at any point takes what it is called with to what it returns. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4]
  rw [show (dat1 V c).owesAt () t.succ = (dat1 V c).owesAt () t.castSucc from rfl]
  rw [show (dat1 V c).Φ t.succ = inv1 V c (t.val + 1) t.isLt from rfl, inv1_succ]
  have hN : t.val < 50 := lt_of_lt_of_eq t.isLt (show cfg1.N = 50 from N_1)
  rw [show (dat1 V c).leavesExact 0 t = owns (c : Thread nD τ) (ms1_0 t) fullShare ((dat1 V c).after 0 t) from by
    unfold Dat.leavesExact; rw [(show cfg1.idle 0 (grid1.coords t) = false from rfl)], after1_0]
  rw [show (dat1 V c).leavesExact 1 t = owns (c : Thread nD τ) (ms1_1 t) fullShare ((dat1 V c).after 1 t) from by
    unfold Dat.leavesExact; rw [(show cfg1.idle 1 (grid1.coords t) = false from rfl)], after1_1]
  rw [show (dat1 V c).leavesExact 2 t = owns (c : Thread nD τ) (ms1_2 t) fullShare ((dat1 V c).after 2 t) from by
    unfold Dat.leavesExact; rw [(show cfg1.idle 2 (grid1.coords t) = false from rfl)], after1_2]
  rw [show (dat1 V c).leavesExact 3 t = owns (c : Thread nD τ) (ms1_3 t) fullShare ((dat1 V c).after 3 t) from by
    unfold Dat.leavesExact; rw [(show cfg1.idle 3 (grid1.coords t) = false from rfl)], after1_3]
  rw [show (dat1 V c).leavesExact 4 t = owns (c : Thread nD τ) (ms1_4 t) fullShare ((dat1 V c).after 4 t) from by
    unfold Dat.leavesExact; rw [(show cfg1.idle 4 (grid1.coords t) = false from rfl)], after1_4]
  rw [show (dat1 V c).leavesExact 5 t = owns (c : Thread nD τ) (ms1_5 t) fullShare ((dat1 V c).after 5 t) from by
    unfold Dat.leavesExact; rw [(show cfg1.idle 5 (grid1.coords t) = false from rfl)], after1_5]
  by_cases h0 : t.val = 0
  · have h1 : t.val ≠ 49 := by omega
    rw [Dat.leavesExact_idle (dat1 V c) 6 t (idle1_6 t h1) (noFlush1_6 t h1)]
    rw [dat1_castSucc V c t, inv1_zero V c _ _ h0, scoped1_eq]
    rw [accAt_zero V c t h0]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply (readout_first c (grid1.coords t) _ _ _ _ _ _ _ _ _ _ _ _ _ _ _ (Memref.isWhole_whole _) (blk1 V c 0 t) (blk1 V c 1 t) (blk1 V c 2 t) (blk1 V c 3 t) (blk1 V c 4 t) ((first1_iff t).mpr h0) (fun h => h1 ((last1_iff t).mp h)) _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    iintro ⟨H0, H1, H2, H3, H4, H5, H6, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val = 49
    · rw [show (dat1 V c).leavesExact 6 t = owns (c : Thread nD τ) (ms1_6 t) fullShare ((dat1 V c).after 6 t) from by
        unfold Dat.leavesExact; rw [live1_6 t h1], after1_6]
      rw [dat1_castSucc V c t, inv1_pos V c _ _ h0]
      rw [accAt_pos V c t h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply (readout_last c (grid1.coords t) _ _ _ _ _ _ _ _ _ _ _ _ _ _ _ (Memref.isWhole_whole _) (blk1 V c 0 t) (blk1 V c 1 t) (blk1 V c 2 t) (blk1 V c 3 t) (blk1 V c 4 t) (fun h => h0 ((first1_iff t).mp h)) ((last1_iff t).mpr h1) _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, H5, H6, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idle1_6 t h1) (noFlush1_6 t h1)]
      rw [dat1_castSucc V c t, inv1_pos V c _ _ h0]
      rw [accAt_pos V c t h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply (readout_mid c (grid1.coords t) _ _ _ _ _ _ _ _ _ _ _ _ _ _ _ (Memref.isWhole_whole _) (blk1 V c 0 t) (blk1 V c 1 t) (blk1 V c 2 t) (blk1 V c 3 t) (blk1 V c 4 t) (fun h => h0 ((first1_iff t).mp h)) (fun h => h1 ((last1_iff t).mp h)) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, H5, H6, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The second launch's row of the body table. -/
theorem defs₀_row1 (t : Fin cfg1.N) :
    defs₀ (F := F) .tc cfg1.body (cfg1.bodyArgs t (cfg1.slots t)) = bodyAt1 t := by
  unfold defs₀; rw [Defs.onTc_tc]

/-- The region's body obligation. -/
theorem obligation1 (c : Dev nD) : BodyObligation (dat1 (F := F) V c) (defs₀ (F := F)) Variants.none () Set.univ := fun t => by
  rw [bigSep_W1, bigSep_W1, defs₀_row1]
  exact triple_restated (sound1 V c t) rfl .rfl fun _ => .rfl

/-- What the region is handed is the invariant before the first point. -/
theorem hin1 (c : Dev nD) : iprop(Pipeline.scopedRest spec1 c ∗ (∃ r, prngReg c r)) ⊢ (dat1 V c).Φ 0 := by
  rw [show (dat1 V c).Φ 0 = inv1 V c 0 (Nat.zero_le _) from rfl, inv1_zero V c 0 _ rfl]

/-- After the last point the invariant gives it back. -/
theorem hout1 (c : Dev nD) : (dat1 V c).Φ (Fin.last cfg1.N) ⊢ iprop(Pipeline.scopedRest spec1 c ∗ (∃ r, prngReg c r)) := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 50 := N_1; omega), scoped1_eq]
  iintro ⟨⟨HS0, HR⟩, Hg⟩
  isplitl [HS0 HR]
  · isplitl [HS0]; · iexists _; iexact HS0
    iexact HR
  iexact Hg

end Cert.KernelIdeal.Hand

end
-- ==== Proof.Ideal.Run.lean ====
/-
  The whole program's run: the host's reshape, the two kernel regions and the closing reshape, as four segments.

  Each region is entered with every host buffer at known contents and leaves them at known contents. So the run ends with
  every host buffer at the contents `vEnd`, which the other modules read.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Ideal.StatsPoints
public import proofs.«01_k».proof.Proof.Ideal.ReadoutPoints
public import proofs.«01_k».proof.Proof.Gen.KernelIdeal.Regions
public import Idealize.ShloMosaic.Lib.Pipeline.Regions
public import Idealize.ShloMosaic.Lib.Pipeline.RegionArraysS

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host buffers after the first region. -/
def vStats (c : Dev nD) : Valuation τ sig (Elt F) := Pipeline.afterRegion (dat0 (V1 m) c) (V1 m c)

/-- The host buffers after the second region. -/
def vReadout (c : Dev nD) : Valuation τ sig (Elt F) := Pipeline.afterRegion (dat1 (vStats m) c) (vStats m c)

/-- The host buffers at the end. -/
def vEnd (c : Dev nD) : Valuation τ sig (Elt F) := StableHlo.after hostOps2 (vReadout m c)

/-- The two regions' proof data. -/
def pdats : (p : Fin 2) → (c : Dev nD) → Dat τ (Elt F) Unit ℕ (UR sig nD τ) ℕ (cfgs p) c
  | 0 => fun c => dat0 (V1 m) c
  | 1 => fun c => dat1 (vStats m) c

/-- Every TensorCore cell may be waited on; no core owes anything, so one level is enough. -/
abbrev lvs : GSem nD τ sig → Finset Unit := fun g => if g.1.2 = .tc then {()} else ∅
/-- The level of every semaphore: zero. -/
abbrev lv0 : GSem nD τ sig → Unit → ℕ := fun _ _ => 0

/-- What rides beside the host buffers: the core owes nothing, and its generator register is at some state. -/
abbrev beside (c : Dev nD) : sProp 𝕄 :=
  iprop((∃ W, owes (c : Thread nD τ) (0 : CellTallies nD τ sig Unit) W) ∗ (∃ r, prngReg c r) ∗ emp)

/-- One level serves both launches. -/
theorem cut (p : Fin 2) : Pipeline.LevelCut (pcfgs (F := F)) adm () lvs lv0 p (fun _ => 0) (fun _ => 0) where
  hι := fun c w s => by
    change () ∈ ite _ _ _
    rw [if_pos rfl]
    exact Finset.mem_singleton_self ()
  hιb := fun c w s => le_refl _
  hD := fun c g i h => absurd h (lt_irrefl _)

set_option backward.isDefEq.respectTransparency.types false in
/-- The first region's segment. -/
def reg0 : RegionSeg (pcfgs (F := F)) adm (pdats m) () defs₀ Variants.none lvs lv0 0 :=
  Pipeline.RegionSeg.ofHeldIn (pcfgs (F := F)) adm (pdats m) () defs₀ Variants.none lvs lv0 0 (fun _ => 0) (Pipeline.ucRefs τ sig)
    (fun c => iprop(∃ r, prngReg c r)) (fun c => iprop(∃ r, prngReg c r)) launch0.toP rfl
    (fun c => (obligation0 (V1 m) c).loose) (fun _ _ => rfl) (fun _ => rfl)
    (fun c w => (dat0 (V1 m) c).share_full (fun _ => rfl) w) (hin0 (V1 m)) (hout0 (V1 m)) (fun _ => 0) (cut 0) (fun _ => iprop(emp)) (V1 m)
    (fun c w => rfl)

set_option backward.isDefEq.respectTransparency.types false in
/-- The second region's segment. -/
def reg1 : RegionSeg (pcfgs (F := F)) adm (pdats m) () defs₀ Variants.none lvs lv0 1 :=
  Pipeline.RegionSeg.ofHeldIn (pcfgs (F := F)) adm (pdats m) () defs₀ Variants.none lvs lv0 1 (fun _ => 0) (Pipeline.ucRefs τ sig)
    (fun c => iprop(∃ r, prngReg c r)) (fun c => iprop(∃ r, prngReg c r)) launch1.toP rfl
    (fun c => (obligation1 (vStats m) c).loose) (fun _ _ => rfl) (fun _ => rfl)
    (fun c w => (dat1 (vStats m) c).share_full (fun _ => rfl) w) (hin1 (vStats m)) (hout1 (vStats m)) (fun _ => 0) (cut 1) (fun _ => iprop(emp)) (vStats m)
    (fun c w => rfl)

set_option backward.isDefEq.respectTransparency.types false in
/-- What the first launch takes of the host's buffers. -/
theorem reg0_pre (c : Dev nD) : iprop(StableHlo.held (c : Thread nD τ) (Pipeline.ucRefs τ sig) (V1 m c) ∗ beside c) ⊢ (reg0 m).pre c := by
  unfold reg0
  exact Pipeline.RegionSeg.ofHeldIn_pre (pcs := pcfgs (F := F)) (a := adm) (pdats := pdats m) (ι := ()) (defs₀ := defs₀) (𝒱₀ := Variants.none)
    (L := lvs) (lv := lv0) (p := 0) (D := fun _ => 0) (S := Pipeline.ucRefs τ sig) (X := fun c => iprop(∃ r, prngReg c r)) (Y := fun c => iprop(∃ r, prngReg c r))
    (R := fun _ => iprop(emp)) (W := V1 m) (Pipeline.arrRefs_sub_ucRefs spec0 launch0.win.arr_unscoped) c

set_option backward.isDefEq.respectTransparency.types false in
/-- What the first launch hands back. -/
theorem reg0_post (c : Dev nD) : (reg0 m).post c ⊢ iprop(StableHlo.held (c : Thread nD τ) (Pipeline.ucRefs τ sig) (vStats m c) ∗ beside c) := by
  unfold reg0 vStats
  exact Pipeline.RegionSeg.ofHeldIn_post (pcs := pcfgs (F := F)) (a := adm) (pdats := pdats m) (ι := ()) (defs₀ := defs₀) (𝒱₀ := Variants.none)
    (L := lvs) (lv := lv0) (p := 0) (D := fun _ => 0) (S := Pipeline.ucRefs τ sig) (X := fun c => iprop(∃ r, prngReg c r)) (Y := fun c => iprop(∃ r, prngReg c r))
    (R := fun _ => iprop(emp)) (W := V1 m) (Pipeline.arrRefs_sub_ucRefs spec0 launch0.win.arr_unscoped) c

set_option backward.isDefEq.respectTransparency.types false in
/-- What the second launch takes of the host's buffers. -/
theorem reg1_pre (c : Dev nD) : iprop(StableHlo.held (c : Thread nD τ) (Pipeline.ucRefs τ sig) (vStats m c) ∗ beside c) ⊢ (reg1 m).pre c := by
  unfold reg1
  exact Pipeline.RegionSeg.ofHeldIn_pre (pcs := pcfgs (F := F)) (a := adm) (pdats := pdats m) (ι := ()) (defs₀ := defs₀) (𝒱₀ := Variants.none)
    (L := lvs) (lv := lv0) (p := 1) (D := fun _ => 0) (S := Pipeline.ucRefs τ sig) (X := fun c => iprop(∃ r, prngReg c r)) (Y := fun c => iprop(∃ r, prngReg c r))
    (R := fun _ => iprop(emp)) (W := vStats m) (Pipeline.arrRefs_sub_ucRefs spec1 launch1.win.arr_unscoped) c

set_option backward.isDefEq.respectTransparency.types false in
/-- What the second launch hands back. -/
theorem reg1_post (c : Dev nD) : (reg1 m).post c ⊢ iprop(StableHlo.held (c : Thread nD τ) (Pipeline.ucRefs τ sig) (vReadout m c) ∗ beside c) := by
  unfold reg1 vReadout
  exact Pipeline.RegionSeg.ofHeldIn_post (pcs := pcfgs (F := F)) (a := adm) (pdats := pdats m) (ι := ()) (defs₀ := defs₀) (𝒱₀ := Variants.none)
    (L := lvs) (lv := lv0) (p := 1) (D := fun _ => 0) (S := Pipeline.ucRefs τ sig) (X := fun c => iprop(∃ r, prngReg c r)) (Y := fun c => iprop(∃ r, prngReg c r))
    (R := fun _ => iprop(emp)) (W := vStats m) (Pipeline.arrRefs_sub_ucRefs spec1 launch1.win.arr_unscoped) c

attribute [local irreducible] reg0 reg1

/-- The closing host segment. -/
def segEnd : HostSeg (Ix := Unit) (Name := ℕ) (U := UR sig nD τ) (Lvl := ℕ) (pcfgs (F := F)) defs₀ Variants.none lvs lv0 :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (vReadout m) beside

/-- The program as its four segments. -/
abbrev parts (c : Dev nD) : List (Seg (pcfgs (F := F)) adm (pdats m) () defs₀ Variants.none lvs lv0) :=
  [.host (seg0 m Variants.none lvs lv0 (fun _ => beside)), .region (reg0 m), .region (reg1 m), .host (segEnd m)]

/-- The launch element: the pipelines' own cells. -/
def u₀ : UR sig nD τ := initOf (Pipeline.cells cfgs cellOf_inj) (Pipeline.launchToks cfgs cellOf_inj)

set_option backward.isDefEq.respectTransparency.types false in
set_option maxHeartbeats 1000000 in
/-- Every run terminates with each host buffer at `vEnd` and every semaphore counter at zero. -/
theorem run_main : θ_run defs (onTc (τ := τ) (main (F := F))) ⟨m, fun _ => 0, ρ⟩ (fun r => (∀ c : Dev nD,
      ∀ b ∈ Pipeline.ucRefs τ sig, r.2.mem (c, b) = vEnd m c b) ∧ r.2.sem = fun _ => 0) := by
  refine Pipeline.θ_run_regions_kit_dev_sems (pcfgs (F := F)) adm (pdats m) () cellOf_inj emb₁ defs₀ Variants.none lvs lv0 m ρ main
    (parts m)
    (fun c Q => by
      rewrite [main_chain c, Seg.run_eq_chain,
        show (parts m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [parts, Seg.pipes_host, Seg.pipes_region, Seg.pipes_nil]; decide) (O₀ := 0)
    (hL := fun g h => if_neg h) (G := fun _ => iprop(emp)) (u₀ := u₀)
    (hu₀ := ?_)
    (T₀ := fun c => iprop(StableHlo.held (c : Thread nD τ) (Pipeline.ucRefs τ sig) (V0 m c) ∗ beside c))
    (Tₙ := fun c => StableHlo.held (c : Thread nD τ) (Pipeline.ucRefs τ sig) (vEnd m c))
    (hch := fun c => ⟨.rfl, reg0_pre m c, (reg0_post m c).trans (reg1_pre m c), reg1_post m c, ?_⟩)
    (hinit := ?_)
    (QY := fun c s => ∀ b ∈ Pipeline.ucRefs τ sig, s.mem (c, b) = vEnd m c b)
    (hfin := fun c s' => ?_) (hQ := fun _ h hz => ⟨h, funext fun g => hz g (.inr (regions_no_unscoped g.2))⟩)
  · unfold u₀
    iintro Hu
    imodintro
    isplitl [Hu]
    · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (vEnd m c) ∗ beside c) ⊢ _
    iintro ⟨Hh, HO, -⟩
    isplitl [Hh]; · iexact Hh
    iexact HO
  · refine Pipeline.initEach lvs lv0 fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (vEnd m c) s') $$ [Hh HSI]
    · isplitl [Hh] <;> iassumption
    icases Hr with ⟨%h, HSI⟩
    imodintro
    isplitr
    · ipureintro
      exact h
    · iexact HSI

/-! ## The arguments -/

/-- A host buffer that is no output of the first region keeps its contents across it. -/
theorem vStats_keeps (c : Dev nD) (r : Ref sig .tc) (h : ∀ w : Fin cfg0.W, Pipeline.arrRef cfg0.spec w = r → (cfg0.win w).isOut = false) :
    vStats m c r = V1 m c r :=
  Pipeline.afterRegion_keeps (dat0 (V1 m) c) (V1 m c) launch0.win.arr_inj (fun w => dat0_A (V1 m) c w) r h

/-- A host buffer that is no output of the second region keeps its contents across it. -/
theorem vReadout_keeps (c : Dev nD) (r : Ref sig .tc) (h : ∀ w : Fin cfg1.W, Pipeline.arrRef cfg1.spec w = r → (cfg1.win w).isOut = false) :
    vReadout m c r = vStats m c r :=
  Pipeline.afterRegion_keeps (dat1 (vStats m) c) (vStats m c) launch1.win.arr_inj (fun w => dat1_A (vStats m) c w) r h

/-- A host buffer the closing reshape does not write keeps its contents across it. -/
theorem vEnd_keeps (c : Dev nD) (r : Ref sig .tc) (h : r ∉ hostOps2_W) : vEnd m c r = vReadout m c r :=
  StableHlo.after_of_writes_sub hostOps2 _ hostOps2_writes h

/-- The node features end as launched. -/
theorem vEnd_arg0 (c : Dev nD) : vEnd m c main_arg0 = m ((c : Thread nD τ).loc main_arg0) :=
  (vEnd_keeps m c _ (by decide)).trans <| (vReadout_keeps m c _ (by decide)).trans <| (vStats_keeps m c _ (by decide)).trans <| (V1_of m c main_arg0 (by decide)).trans rfl
/-- The attention column ends as launched. -/
theorem vEnd_arg1 (c : Dev nD) : vEnd m c main_arg1 = m ((c : Thread nD τ).loc main_arg1) :=
  (vEnd_keeps m c _ (by decide)).trans <| (vReadout_keeps m c _ (by decide)).trans <| (vStats_keeps m c _ (by decide)).trans <| (V1_of m c main_arg1 (by decide)).trans rfl
/-- The segment ids end as launched. -/
theorem vEnd_arg2 (c : Dev nD) : vEnd m c main_arg2 = m ((c : Thread nD τ).loc main_arg2) :=
  (vEnd_keeps m c _ (by decide)).trans <| (vReadout_keeps m c _ (by decide)).trans <| (vStats_keeps m c _ (by decide)).trans <| (V1_of m c main_arg2 (by decide)).trans rfl

/-- Every host buffer of the program is among those the run reads. -/
theorem mem_host (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

/-- Every run leaves the two results at `vEnd` and the arguments as launched. -/
theorem run_results : θ_run defs (onTc (τ := τ) (main (F := F))) ⟨m, fun _ => 0, ρ⟩ (fun r => ∀ c : Dev nD,
      r.2.mem ((c.tc : Thread nD τ).loc main_v2_1) = vEnd m c main_v2_1
      ∧ r.2.mem ((c.tc : Thread nD τ).loc main_v3) = vEnd m c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h.1 c _ (mem_host main_v2_1 rfl), h.1 c _ (mem_host main_v3 rfl), (h.1 c _ (mem_host main_arg0 rfl)).trans (vEnd_arg0 m c),
      (h.1 c _ (mem_host main_arg1 rfl)).trans (vEnd_arg1 m c), (h.1 c _ (mem_host main_arg2 rfl)).trans (vEnd_arg2 m c)⟩) (run_main m ρ)

/-- Every run leaves the arguments as launched and every semaphore counter at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c _ (mem_host main_arg0 rfl)).trans (vEnd_arg0 m c),
      (h.1 c _ (mem_host main_arg1 rfl)).trans (vEnd_arg1 m c), (h.1 c _ (mem_host main_arg2 rfl)).trans (vEnd_arg2 m c)⟩, h.2⟩) (run_main m ρ)

end Cert.KernelIdeal.Hand

end
-- ==== Proof.ReferenceFrame.lean ====
/-
  The reference's run with its counters: the program has no semaphore, so every counter is zero at the end.
-/
module

public import proofs.«01_k».proof.Proof.Gen.ReferenceIdeal.Run
public import Idealize.ShloMosaic.Lib.Quiescent

@[expose] public section

noncomputable section

namespace Cert.ReferenceIdeal.Hand

open Cert.ReferenceIdeal Idealize.ShloMosaic Idealize.ShloMosaic.TcCoe Idealize.SL.Sem

variable {F : FTy → Type} [FloatOps F]

/-- Every run of the reference leaves the arguments as launched and every semaphore counter at zero. -/
theorem frame_holds (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2, sem_eq_zero_of_no_sems (by decide) r.2⟩) (Value.run m ρ)

end Cert.ReferenceIdeal.Hand

end
-- ==== Proof.Ideal.Arrays.lean ====
/-
  What the arrays hold after the two launches, read element by element.
-/
module

public import proofs.«01_k».proof.Proof.Ideal.Run
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.Sem
open Idealize.ShloMosaic.Pipeline (Dat Cfg Window)

variable {F : FTy → Type} [FloatOps F]

variable (V : Dev nD → Valuation τ sig (Elt F))

/-- Node `r` of block `t`. -/
def node (t : Fin 50) (r : Fin 2000) : Fin 100000 := ⟨2000 * t.val + r.val, by omega⟩

/-- Grid point `t` of the first launch. -/
def pt0 (t : Fin 50) : Fin cfg0.N := ⟨t.val, lt_of_lt_of_eq t.isLt N_0.symm⟩
/-- Grid point `t` of the second launch. -/
def pt1 (t : Fin 50) : Fin cfg1.N := ⟨t.val, lt_of_lt_of_eq t.isLt N_1.symm⟩

/-- After the first launch the score array holds, in row `t`, the scores stored at point `t`. -/
theorem scores_apply (c : Dev nD) (t : Fin 50) (r : Fin 2000) :
    (dat0 V c).arrAt 3 cfg0.N (ix3 t (0 : Fin 1) r) = sAt V c (pt0 t) (ix3 (0 : Fin 1) (0 : Fin 1) r) := by
  have h := (dat0 V c).arrAt_eq_of_covers 3 (fun i => sAt V c (pt0 ⟨(i 0).val, (i 0).isLt⟩) (ix3 (0 : Fin 1) (0 : Fin 1) (⟨(i 2).val, (i 2).isLt⟩ : Fin 2000)))
    (by decide +kernel) (fun t hf y => by
      have e0 : (((cfg0.win 3).blk t).view.emb y 0).val = t.val := by
        have hy0 : (y 0).val < 1 := (y 0).isLt
        have hb0 : (((cfg0.win 3).blk t).view.emb y 0).val = win0_3.index t (0 : Fin 3) * 1 + 1 * (y 0).val := rfl
        have hi : win0_3.index t (0 : Fin 3) = t.val := (by decide +kernel : ∀ t : Fin grid0.N, win0_3.index t (0 : Fin 3) = t.val) t
        omega
      have e2 : (((cfg0.win 3).blk t).view.emb y 2).val = (y 2).val := by
        have hb0 : (((cfg0.win 3).blk t).view.emb y 2).val = win0_3.index t (2 : Fin 3) * 2000 + 1 * (y 2).val := rfl
        have hi : win0_3.index t (2 : Fin 3) = 0 := (by decide +kernel : ∀ t : Fin grid0.N, win0_3.index t (2 : Fin 3) = 0) t
        omega
      rw [after0_3]
      show sAt V c t _ = sAt V c _ _
      congr 1
      · congr 1; exact Fin.ext e0.symm
      · funext a
        apply Fin.ext
        match a with
        | ⟨0, _⟩ => show (y 0).val = 0; have hy0 : (y 0).val < 1 := (y 0).isLt; omega
        | ⟨1, _⟩ => show (y 1).val = 0; have hy0 : (y 1).val < 1 := (y 1).isLt; omega
        | ⟨2, _⟩ => exact e2.symm)
  rw [h]
  rfl

/-- After the second launch the weight array holds, in row `t`, the weights stored at point `t`. -/
theorem weights_apply (c : Dev nD) (t : Fin 50) (r : Fin 2000) :
    (dat1 V c).arrAt 5 cfg1.N (ix3 t (0 : Fin 1) r) = wAt V c (pt1 t) (ix3 (0 : Fin 1) (0 : Fin 1) r) := by
  have h := (dat1 V c).arrAt_eq_of_covers 5 (fun i => wAt V c (pt1 ⟨(i 0).val, (i 0).isLt⟩) (ix3 (0 : Fin 1) (0 : Fin 1) (⟨(i 2).val, (i 2).isLt⟩ : Fin 2000)))
    (by decide +kernel) (fun t hf y => by
      have e0 : (((cfg1.win 5).blk t).view.emb y 0).val = t.val := by
        have hy0 : (y 0).val < 1 := (y 0).isLt
        have hb0 : (((cfg1.win 5).blk t).view.emb y 0).val = win1_5.index t (0 : Fin 3) * 1 + 1 * (y 0).val := rfl
        have hi : win1_5.index t (0 : Fin 3) = t.val := (by decide +kernel : ∀ t : Fin grid1.N, win1_5.index t (0 : Fin 3) = t.val) t
        omega
      have e2 : (((cfg1.win 5).blk t).view.emb y 2).val = (y 2).val := by
        have hb0 : (((cfg1.win 5).blk t).view.emb y 2).val = win1_5.index t (2 : Fin 3) * 2000 + 1 * (y 2).val := rfl
        have hi : win1_5.index t (2 : Fin 3) = 0 := (by decide +kernel : ∀ t : Fin grid1.N, win1_5.index t (2 : Fin 3) = 0) t
        omega
      rw [after1_5]
      show wAt V c t _ = wAt V c _ _
      congr 1
      · congr 1; exact Fin.ext e0.symm
      · funext a
        apply Fin.ext
        match a with
        | ⟨0, _⟩ => show (y 0).val = 0; have hy0 : (y 0).val < 1 := (y 0).isLt; omega
        | ⟨1, _⟩ => show (y 1).val = 0; have hy0 : (y 1).val < 1 := (y 1).isLt; omega
        | ⟨2, _⟩ => exact e2.symm)
  rw [h]
  rfl

/-- After the first launch the array of segment maxima holds the last running maximum row. -/
theorem maxima_apply (c : Dev nD) (i : S1x512.Idx) : (dat0 V c).arrAt 4 cfg0.N i = mAt V c 49 (by rw [show cfg0.N = 50 from N_0]; omega) i := by
  refine ((dat0 V c).arrAt_emb_eq_after_last 4 (pt0 49) (by decide +kernel) i).trans ?_
  rw [after0_4]
  rfl

/-- After the first launch the array of segment sums holds the last running sum row. -/
theorem sums_apply (c : Dev nD) (i : S1x512.Idx) : (dat0 V c).arrAt 5 cfg0.N i = lAt V c 49 (by rw [show cfg0.N = 50 from N_0]; omega) i := by
  refine ((dat0 V c).arrAt_emb_eq_after_last 5 (pt0 49) (by decide +kernel) i).trans ?_
  rw [after0_5]
  rfl

/-- After the second launch the readout array holds the last accumulated readout. -/
theorem readout_apply (c : Dev nD) (i : S512x128.Idx) : (dat1 V c).arrAt 6 cfg1.N i = accAt V c 49 (by rw [show cfg1.N = 50 from N_1]; omega) i := by
  refine ((dat1 V c).arrAt_emb_eq_after_last 6 (pt1 49) (by decide +kernel) i).trans ?_
  rw [after1_6]
  rfl

/-- Block `t` of the node features. -/
theorem blk0_0_apply (c : Dev nD) (t : Fin 50) (r : Fin 2000) (j : Fin 128) : blk0 V c 0 (pt0 t) (ix2 r j) = V c main_arg0 (ix2 (node t r) j) := by
  show V c main_arg0 (((cfg0.win 0).blk (pt0 t)).view.emb (ix2 r j)) = V c main_arg0 (ix2 (node t r) j)
  congr 1
  have h0 : win0_0.index (pt0 t) (0 : Fin 2) = t.val := (by decide +kernel : ∀ t : Fin 50, win0_0.index (pt0 t) (0 : Fin 2) = t.val) t
  have h1 : win0_0.index (pt0 t) (1 : Fin 2) = 0 := (by decide +kernel : ∀ t : Fin 50, win0_0.index (pt0 t) (1 : Fin 2) = 0) t
  funext a
  apply Fin.ext
  match a with
  | ⟨0, _⟩ => show win0_0.index (pt0 t) (0 : Fin 2) * 2000 + 1 * r.val = 2000 * t.val + r.val; omega
  | ⟨1, _⟩ => show win0_0.index (pt0 t) (1 : Fin 2) * 128 + 1 * j.val = j.val; omega

/-- Block `t` of the segment ids. -/
theorem blk0_2_apply (c : Dev nD) (t : Fin 50) (r : Fin 2000) : blk0 V c 2 (pt0 t) (ix3 (0 : Fin 1) (0 : Fin 1) r) = V c main_v0 (ix3 t (0 : Fin 1) r) := by
  show V c main_v0 (((cfg0.win 2).blk (pt0 t)).view.emb (ix3 (0 : Fin 1) (0 : Fin 1) r)) = V c main_v0 (ix3 t (0 : Fin 1) r)
  congr 1
  have h0 : win0_2.index (pt0 t) (0 : Fin 3) = t.val := (by decide +kernel : ∀ t : Fin 50, win0_2.index (pt0 t) (0 : Fin 3) = t.val) t
  have h1 : win0_2.index (pt0 t) (1 : Fin 3) = 0 := (by decide +kernel : ∀ t : Fin 50, win0_2.index (pt0 t) (1 : Fin 3) = 0) t
  have h2 : win0_2.index (pt0 t) (2 : Fin 3) = 0 := (by decide +kernel : ∀ t : Fin 50, win0_2.index (pt0 t) (2 : Fin 3) = 0) t
  funext a
  apply Fin.ext
  match a with
  | ⟨0, _⟩ => show win0_2.index (pt0 t) (0 : Fin 3) * 1 + 1 * 0 = t.val; omega
  | ⟨1, _⟩ => show win0_2.index (pt0 t) (1 : Fin 3) * 1 + 1 * 0 = 0; omega
  | ⟨2, _⟩ => show win0_2.index (pt0 t) (2 : Fin 3) * 2000 + 1 * r.val = r.val; omega

/-- Block `t` of the node features. -/
theorem blk1_0_apply (c : Dev nD) (t : Fin 50) (r : Fin 2000) (j : Fin 128) : blk1 V c 0 (pt1 t) (ix2 r j) = V c main_arg0 (ix2 (node t r) j) := by
  show V c main_arg0 (((cfg1.win 0).blk (pt1 t)).view.emb (ix2 r j)) = V c main_arg0 (ix2 (node t r) j)
  congr 1
  have h0 : win1_0.index (pt1 t) (0 : Fin 2) = t.val := (by decide +kernel : ∀ t : Fin 50, win1_0.index (pt1 t) (0 : Fin 2) = t.val) t
  have h1 : win1_0.index (pt1 t) (1 : Fin 2) = 0 := (by decide +kernel : ∀ t : Fin 50, win1_0.index (pt1 t) (1 : Fin 2) = 0) t
  funext a
  apply Fin.ext
  match a with
  | ⟨0, _⟩ => show win1_0.index (pt1 t) (0 : Fin 2) * 2000 + 1 * r.val = 2000 * t.val + r.val; omega
  | ⟨1, _⟩ => show win1_0.index (pt1 t) (1 : Fin 2) * 128 + 1 * j.val = j.val; omega

/-- Block `t` of the segment ids. -/
theorem blk1_1_apply (c : Dev nD) (t : Fin 50) (r : Fin 2000) : blk1 V c 1 (pt1 t) (ix3 (0 : Fin 1) (0 : Fin 1) r) = V c main_v0 (ix3 t (0 : Fin 1) r) := by
  show V c main_v0 (((cfg1.win 1).blk (pt1 t)).view.emb (ix3 (0 : Fin 1) (0 : Fin 1) r)) = V c main_v0 (ix3 t (0 : Fin 1) r)
  congr 1
  have h0 : win1_1.index (pt1 t) (0 : Fin 3) = t.val := (by decide +kernel : ∀ t : Fin 50, win1_1.index (pt1 t) (0 : Fin 3) = t.val) t
  have h1 : win1_1.index (pt1 t) (1 : Fin 3) = 0 := (by decide +kernel : ∀ t : Fin 50, win1_1.index (pt1 t) (1 : Fin 3) = 0) t
  have h2 : win1_1.index (pt1 t) (2 : Fin 3) = 0 := (by decide +kernel : ∀ t : Fin 50, win1_1.index (pt1 t) (2 : Fin 3) = 0) t
  funext a
  apply Fin.ext
  match a with
  | ⟨0, _⟩ => show win1_1.index (pt1 t) (0 : Fin 3) * 1 + 1 * 0 = t.val; omega
  | ⟨1, _⟩ => show win1_1.index (pt1 t) (1 : Fin 3) * 1 + 1 * 0 = 0; omega
  | ⟨2, _⟩ => show win1_1.index (pt1 t) (2 : Fin 3) * 2000 + 1 * r.val = r.val; omega

/-- The weight column, whole at every point. -/
theorem blk0_1_apply (c : Dev nD) (t : Fin 50) (j : Fin 128) : blk0 V c 1 (pt0 t) (ix2 j (0 : Fin 1)) = V c main_arg1 (ix2 j (0 : Fin 1)) := by
  show V c main_arg1 (((cfg0.win 1).blk (pt0 t)).view.emb (ix2 j (0 : Fin 1))) = V c main_arg1 (ix2 j (0 : Fin 1))
  congr 1
  have h0 : win0_1.index (pt0 t) (0 : Fin 2) = 0 := (by decide +kernel : ∀ t : Fin 50, win0_1.index (pt0 t) (0 : Fin 2) = 0) t
  have h1 : win0_1.index (pt0 t) (1 : Fin 2) = 0 := (by decide +kernel : ∀ t : Fin 50, win0_1.index (pt0 t) (1 : Fin 2) = 0) t
  funext a
  apply Fin.ext
  match a with
  | ⟨0, _⟩ => show win0_1.index (pt0 t) (0 : Fin 2) * 128 + 1 * j.val = j.val; omega
  | ⟨1, _⟩ => show win0_1.index (pt0 t) (1 : Fin 2) * 1 + 1 * 0 = 0; omega

/-- Block `t` of the scores. -/
theorem blk1_2_apply (c : Dev nD) (t : Fin 50) (r : Fin 2000) : blk1 V c 2 (pt1 t) (ix3 (0 : Fin 1) (0 : Fin 1) r) = V c main_v1_0 (ix3 t (0 : Fin 1) r) := by
  show V c main_v1_0 (((cfg1.win 2).blk (pt1 t)).view.emb (ix3 (0 : Fin 1) (0 : Fin 1) r)) = V c main_v1_0 (ix3 t (0 : Fin 1) r)
  congr 1
  have h0 : win1_2.index (pt1 t) (0 : Fin 3) = t.val := (by decide +kernel : ∀ t : Fin 50, win1_2.index (pt1 t) (0 : Fin 3) = t.val) t
  have h1 : win1_2.index (pt1 t) (1 : Fin 3) = 0 := (by decide +kernel : ∀ t : Fin 50, win1_2.index (pt1 t) (1 : Fin 3) = 0) t
  have h2 : win1_2.index (pt1 t) (2 : Fin 3) = 0 := (by decide +kernel : ∀ t : Fin 50, win1_2.index (pt1 t) (2 : Fin 3) = 0) t
  funext a
  apply Fin.ext
  match a with
  | ⟨0, _⟩ => show win1_2.index (pt1 t) (0 : Fin 3) * 1 + 1 * 0 = t.val; omega
  | ⟨1, _⟩ => show win1_2.index (pt1 t) (1 : Fin 3) * 1 + 1 * 0 = 0; omega
  | ⟨2, _⟩ => show win1_2.index (pt1 t) (2 : Fin 3) * 2000 + 1 * r.val = r.val; omega

/-- The segment maxima, whole at every point. -/
theorem blk1_3_apply (c : Dev nD) (t : Fin 50) (g : Fin 512) : blk1 V c 3 (pt1 t) (ix2 (0 : Fin 1) g) = V c main_v1_1 (ix2 (0 : Fin 1) g) := by
  show V c main_v1_1 (((cfg1.win 3).blk (pt1 t)).view.emb (ix2 (0 : Fin 1) g)) = V c main_v1_1 (ix2 (0 : Fin 1) g)
  congr 1
  have h0 : win1_3.index (pt1 t) (0 : Fin 2) = 0 := (by decide +kernel : ∀ t : Fin 50, win1_3.index (pt1 t) (0 : Fin 2) = 0) t
  have h1 : win1_3.index (pt1 t) (1 : Fin 2) = 0 := (by decide +kernel : ∀ t : Fin 50, win1_3.index (pt1 t) (1 : Fin 2) = 0) t
  funext a
  apply Fin.ext
  match a with
  | ⟨0, _⟩ => show win1_3.index (pt1 t) (0 : Fin 2) * 1 + 1 * 0 = 0; omega
  | ⟨1, _⟩ => show win1_3.index (pt1 t) (1 : Fin 2) * 512 + 1 * g.val = g.val; omega

/-- The segment sums, whole at every point. -/
theorem blk1_4_apply (c : Dev nD) (t : Fin 50) (g : Fin 512) : blk1 V c 4 (pt1 t) (ix2 (0 : Fin 1) g) = V c main_v1_2 (ix2 (0 : Fin 1) g) := by
  show V c main_v1_2 (((cfg1.win 4).blk (pt1 t)).view.emb (ix2 (0 : Fin 1) g)) = V c main_v1_2 (ix2 (0 : Fin 1) g)
  congr 1
  have h0 : win1_4.index (pt1 t) (0 : Fin 2) = 0 := (by decide +kernel : ∀ t : Fin 50, win1_4.index (pt1 t) (0 : Fin 2) = 0) t
  have h1 : win1_4.index (pt1 t) (1 : Fin 2) = 0 := (by decide +kernel : ∀ t : Fin 50, win1_4.index (pt1 t) (1 : Fin 2) = 0) t
  funext a
  apply Fin.ext
  match a with
  | ⟨0, _⟩ => show win1_4.index (pt1 t) (0 : Fin 2) * 1 + 1 * 0 = 0; omega
  | ⟨1, _⟩ => show win1_4.index (pt1 t) (1 : Fin 2) * 512 + 1 * g.val = g.val; omega

end Cert.KernelIdeal.Hand
-- ==== Proof.Value.Softmax.lean ====
/-
  The mathematics of a softmax taken in one segment, over the extended reals: the running maximum and the rescaled running
  sum over blocks, and that a softmax does not depend on a floor under its maximum.
-/
module

public import Idealize.ShloMosaic.PureOps.Ideal
public import Idealize.ShloMosaic.PureOps.Ideal.Laws

@[expose] public section

noncomputable section

namespace Cert.Softmax

open Idealize.ShloMosaic

/-- Every exponential is at least zero. -/
theorem exp_nonneg (x : EReal) : 0 ≤ Ideal.exp x := by
  induction x using EReal.rec with
  | bot => exact le_refl _
  | top => exact le_top
  | coe r => exact EReal.coe_nonneg.mpr (Real.exp_pos r).le

/-- The exponential of minus infinity is zero. -/
theorem exp_bot : Ideal.exp ⊥ = 0 := rfl
/-- The exponential of a real number is the real exponential. -/
theorem exp_coe (r : ℝ) : Ideal.exp (r : EReal) = ((Real.exp r : ℝ) : EReal) := rfl

/-- Rescaling one term from an old maximum to a new one. -/
theorem exp_rescale (s a b : EReal) (hs : s ≤ a) (hab : a ≤ b) (ha : a ≠ ⊥) :
    Ideal.exp (s - a) * Ideal.exp (a - b) = Ideal.exp (s - b) := by
  induction b using EReal.rec with
  | bot => exact absurd (le_bot_iff.mp hab) ha
  | top =>
    rw [EReal.sub_top, EReal.sub_top, exp_bot, mul_zero]
  | coe b =>
    induction a using EReal.rec with
    | bot => exact absurd rfl ha
    | top => exact absurd (top_le_iff.mp hab) (EReal.coe_ne_top b)
    | coe a =>
      induction s using EReal.rec with
      | bot => rw [EReal.bot_sub, EReal.bot_sub, exp_bot, zero_mul]
      | top => exact absurd (top_le_iff.mp hs) (EReal.coe_ne_top a)
      | coe s =>
        rw [← EReal.coe_sub, ← EReal.coe_sub, ← EReal.coe_sub, exp_coe, exp_coe, exp_coe, ← EReal.coe_mul, ← Real.exp_add]
        congr 2; ring

/-- A sum of nonnegative extended reals, times a factor, is the sum of the products. -/
theorem sum_mul {ι : Type} (T : Finset ι) (f : ι → EReal) (c : EReal) (hf : ∀ i, 0 ≤ f i) : (∑ i ∈ T, f i) * c = ∑ i ∈ T, f i * c := by
  classical
  induction T using Finset.induction_on with
  | empty => simp
  | insert a T ha ih =>
    rw [Finset.sum_insert ha, Finset.sum_insert ha, EReal.right_distrib_of_nonneg (hf a) (Finset.sum_nonneg fun i _ => hf i), ih]

/-- A sum of reals is the same sum of extended reals. -/
theorem coe_sum {ι : Type} (T : Finset ι) (f : ι → ℝ) : ((∑ i ∈ T, f i : ℝ) : EReal) = ∑ i ∈ T, ((f i : ℝ) : EReal) := by
  classical
  induction T using Finset.induction_on with
  | empty => simp
  | insert a T ha ih => rw [Finset.sum_insert ha, Finset.sum_insert ha, EReal.coe_add, ih]

section Online

variable {R N : ℕ} (f : EReal) (s : ℕ → Fin R → EReal) (p : ℕ → Fin R → Prop) [∀ t r, Decidable (p t r)]

/-- Block `t`'s masked maximum: entries outside the segment count as the floor `f`. -/
def blockMax (t : ℕ) : EReal := Finset.univ.fold max ⊥ fun r => if p t r then s t r else f

/-- What the running maximum is after block `n`: the least bound of the floor and of the segment's entries up to block `n`. -/
theorem runMax (M : (n : ℕ) → n < N → EReal) (h0 : ∀ h, M 0 h = max f (blockMax f s p 0))
    (hs : ∀ n (h : n + 1 < N), M (n + 1) h = max (M n (by omega)) (blockMax f s p (n + 1))) :
    ∀ n (h : n < N) (X : EReal), M n h ≤ X ↔ f ≤ X ∧ ∀ t, t ≤ n → ∀ r, p t r → s t r ≤ X := by
  have key (t : ℕ) (X : EReal) (hX : f ≤ X) : blockMax f s p t ≤ X ↔ ∀ r, p t r → s t r ≤ X := by
    rw [blockMax, Finset.fold_max_le]
    constructor
    · rintro ⟨-, h⟩ r hr
      have := h r (Finset.mem_univ r)
      rwa [if_pos hr] at this
    · intro h
      refine ⟨bot_le, fun r _ => ?_⟩
      by_cases hr : p t r
      · rw [if_pos hr]; exact h r hr
      · rw [if_neg hr]; exact hX
  intro n
  induction n with
  | zero =>
    intro h X
    rw [h0 h, max_le_iff]
    constructor
    · rintro ⟨h1, h2⟩
      refine ⟨h1, fun t ht => ?_⟩
      rw [Nat.le_zero.mp ht]
      exact (key 0 X h1).mp h2
    · rintro ⟨h1, h2⟩
      exact ⟨h1, (key 0 X h1).mpr (h2 0 le_rfl)⟩
  | succ n ih =>
    intro h X
    rw [hs n h, max_le_iff, ih (by omega) X]
    constructor
    · rintro ⟨⟨h1, h2⟩, h3⟩
      refine ⟨h1, fun t ht => ?_⟩
      rcases Nat.lt_or_ge t (n + 1) with hlt | hge
      · exact h2 t (by omega)
      · rw [show t = n + 1 by omega]; exact (key _ X h1).mp h3
    · rintro ⟨h1, h2⟩
      exact ⟨⟨h1, fun t ht => h2 t (by omega)⟩, (key _ X h1).mpr (h2 (n + 1) le_rfl)⟩

/-- What the running sum is after block `n`: the sum, over the segment's entries up to block `n`, of the exponentials of
    their distances to the running maximum. -/
theorem runSum (hf : f ≠ ⊥) (M L : (n : ℕ) → n < N → EReal) (h0 : ∀ h, M 0 h = max f (blockMax f s p 0))
    (hs : ∀ n (h : n + 1 < N), M (n + 1) h = max (M n (by omega)) (blockMax f s p (n + 1)))
    (l0 : ∀ h, L 0 h = ∑ r, if p 0 r then Ideal.exp (s 0 r - M 0 h) else 0)
    (ls : ∀ n (h : n + 1 < N), L (n + 1) h = L n (by omega) * Ideal.exp (M n (by omega) - M (n + 1) h)
      + ∑ r, if p (n + 1) r then Ideal.exp (s (n + 1) r - M (n + 1) h) else 0) :
    ∀ n (h : n < N), L n h = ∑ t ∈ Finset.range (n + 1), ∑ r, if p t r then Ideal.exp (s t r - M n h) else 0 := by
  intro n
  induction n with
  | zero => intro h; rw [l0 h, Finset.sum_range_one]
  | succ n ih =>
    intro h
    have hle : M n (by omega) ≤ M (n + 1) h := by rw [hs n h]; exact le_max_left _ _
    obtain ⟨hfl, hmem⟩ := (runMax f s p M h0 hs n (by omega) (M n (by omega))).mp le_rfl
    have hbot : M n (by omega) ≠ ⊥ := fun e => hf (le_bot_iff.mp (e ▸ hfl))
    have hnn (t : ℕ) (r : Fin R) : 0 ≤ (if p t r then Ideal.exp (s t r - M n (by omega)) else 0) := by
      split
      · exact exp_nonneg _
      · exact le_rfl
    rw [ls n h, Finset.sum_range_succ _ (n + 1), ih (by omega), sum_mul _ _ _ fun t => Finset.sum_nonneg fun r _ => hnn t r]
    congr 1
    refine Finset.sum_congr rfl fun t ht => ?_
    rw [sum_mul _ _ _ fun r => hnn t r]
    refine Finset.sum_congr rfl fun r _ => ?_
    by_cases hp : p t r
    · rw [if_pos hp, if_pos hp]
      exact exp_rescale _ _ _ (hmem t (by have := Finset.mem_range.mp ht; omega) r hp) hle hbot
    · rw [if_neg hp, if_neg hp, zero_mul]

end Online

/-- A softmax weight in the segment `p` does not change when its maximum `Mr` is replaced by the maximum `M` with a real
    floor under it. -/
theorem weight_floor {ι : Type} [Fintype ι] (s : ι → EReal) (p : ι → Prop) [DecidablePred p] (f : ℝ) (M Mr : EReal)
    (hM : ∀ X, M ≤ X ↔ (f : EReal) ≤ X ∧ ∀ i, p i → s i ≤ X) (hMr : ∀ X, Mr ≤ X ↔ ∀ i, p i → s i ≤ X) (i : ι) (hi : p i) :
    Ideal.div (Ideal.exp (s i - M)) (∑ j, if p j then Ideal.exp (s j - M) else 0)
      = Ideal.div (Ideal.exp (s i - Mr)) (∑ j, if p j then Ideal.exp (s j - Mr) else 0) := by
  have hmax : M = max (f : EReal) Mr := by
    refine le_antisymm ((hM _).mpr ⟨le_max_left _ _, fun j hj => le_trans ((hMr Mr).mp le_rfl j hj) (le_max_right _ _)⟩) ?_
    obtain ⟨h1, h2⟩ := (hM M).mp le_rfl
    exact max_le h1 ((hMr M).mpr h2)
  have hle := (hMr Mr).mp le_rfl
  induction Mr using EReal.rec with
  | bot =>
    have hs (j : ι) (hj : p j) : s j = ⊥ := le_bot_iff.mp (hle j hj)
    have he (X : EReal) (j : ι) : (if p j then Ideal.exp (s j - X) else 0) = 0 := by
      by_cases hj : p j
      · rw [if_pos hj, hs j hj, EReal.bot_sub, exp_bot]
      · rw [if_neg hj]
    rw [Finset.sum_congr rfl fun j _ => he M j, Finset.sum_congr rfl fun j _ => he ⊥ j, hs i hi, EReal.bot_sub, EReal.bot_sub]
  | top =>
    rw [hmax, max_eq_right le_top]
  | coe μ =>
    have hMr' : M = ((max f μ : ℝ) : EReal) := by rw [hmax]; exact (EReal.coe_strictMono.monotone.map_max).symm
    set ν := max f μ
    -- the exponentials are real on the segment
    let a : ι → ℝ := fun j => if p j then (if s j = ⊥ then 0 else Real.exp ((s j).toReal - μ)) else 0
    have hnn (j : ι) : 0 ≤ a j := by
      show (0 : ℝ) ≤ if p j then (if s j = ⊥ then 0 else Real.exp ((s j).toReal - μ)) else 0
      split_ifs
      · exact le_rfl
      · exact (Real.exp_pos _).le
      · exact le_rfl
    have ha (j : ι) (hj : p j) : Ideal.exp (s j - (μ : EReal)) = ((a j : ℝ) : EReal) := by
      show _ = ((if p j then (if s j = ⊥ then 0 else Real.exp ((s j).toReal - μ)) else 0 : ℝ) : EReal)
      rw [if_pos hj]
      have hj' := hle j hj
      revert hj'
      generalize s j = x
      intro hx
      induction x using EReal.rec with
      | bot => rw [if_pos rfl, EReal.bot_sub, exp_bot]; rfl
      | top => exact absurd (top_le_iff.mp hx) (EReal.coe_ne_top μ)
      | coe x => rw [if_neg (EReal.coe_ne_bot x), EReal.toReal_coe, ← EReal.coe_sub, exp_coe]
    have hb (j : ι) (hj : p j) : Ideal.exp (s j - (ν : EReal)) = ((a j * Real.exp (μ - ν) : ℝ) : EReal) := by
      rw [EReal.coe_mul, ← ha j hj, ← exp_coe, EReal.coe_sub]
      exact (exp_rescale _ _ _ (hle j hj) (EReal.coe_le_coe_iff.mpr (le_max_right f μ)) (EReal.coe_ne_bot μ)).symm
    have hsa : (∑ j, if p j then Ideal.exp (s j - (μ : EReal)) else 0) = ((∑ j, a j : ℝ) : EReal) := by
      rw [coe_sum]
      refine Finset.sum_congr rfl fun j _ => ?_
      by_cases hj : p j
      · rw [if_pos hj, ha j hj]
      · rw [if_neg hj]
        show (0 : EReal) = ((if p j then (if s j = ⊥ then 0 else Real.exp ((s j).toReal - μ)) else 0 : ℝ) : EReal)
        rw [if_neg hj]; rfl
    have hsb : (∑ j, if p j then Ideal.exp (s j - (ν : EReal)) else 0) = (((∑ j, a j) * Real.exp (μ - ν) : ℝ) : EReal) := by
      rw [Finset.sum_mul, coe_sum]
      refine Finset.sum_congr rfl fun j _ => ?_
      by_cases hj : p j
      · rw [if_pos hj, hb j hj]
      · rw [if_neg hj]
        show (0 : EReal) = (((if p j then (if s j = ⊥ then 0 else Real.exp ((s j).toReal - μ)) else 0) * Real.exp (μ - ν) : ℝ) : EReal)
        rw [if_neg hj, zero_mul]; rfl
    -- the sum is not zero: some entry of the segment is not `⊥`
    have hpos : (∑ j, a j) ≠ 0 := by
      intro h0
      have hz := (Finset.sum_eq_zero_iff_of_nonneg fun j _ => hnn j).mp h0
      have hbot : ((μ : ℝ) : EReal) ≤ ⊥ := (hMr ⊥).mpr fun j hj => by
        by_contra hne
        have hne' : s j ≠ ⊥ := fun e => hne (e ▸ le_rfl)
        have h1 : (if p j then (if s j = ⊥ then 0 else Real.exp ((s j).toReal - μ)) else 0 : ℝ) = 0 := hz j (Finset.mem_univ j)
        rw [if_pos hj, if_neg hne'] at h1
        exact (Real.exp_pos _).ne' h1
      exact EReal.coe_ne_bot μ (le_bot_iff.mp hbot)
    have hc : Real.exp (μ - ν) ≠ 0 := (Real.exp_pos _).ne'
    rw [hMr', hsa, hsb, ha i hi, hb i hi]
    unfold Ideal.div
    rw [if_neg (by exact_mod_cast mul_ne_zero hpos hc), if_neg (by exact_mod_cast hpos), ← EReal.coe_inv, ← EReal.coe_inv,
      ← EReal.coe_mul, ← EReal.coe_mul]
    congr 1
    field_simp

end Cert.Softmax
-- ==== Proof.Value.Words.lean ====
/-
  What the comparison words and the float literals of the two programs denote.
-/
module

public import Idealize.ShloMosaic.PureOps.Ideal
public import Idealize.ShloMosaic.PureOps.Ideal.Laws
public import Idealize.ShloMosaic.Lib.WordCmp

@[expose] public section

noncomputable section

namespace Cert.Words

open Idealize.ShloMosaic

/-- A choice on an equality of words. -/
theorem select_eq {α : Type} (a b : BitVec 32) (u v : α) : Scalar.select (IntOp.cmpi .eq a b) u v = if a = b then u else v := by
  by_cases h : a = b
  · rw [if_pos h, h]; simp [Scalar.select, IntOp.cmpi]
  · rw [if_neg h]
    have : (a == b) = false := by simp [h]
    simp [Scalar.select, IntOp.cmpi, this]

/-- An equality of words, widened and read as a float, is one or zero. -/
theorem onehot_eq (a b : BitVec 32) :
    FloatOps.sitofp (F := Ideal) .f32 (BitVec.setWidth 32 (IntOp.cmpi .eq a b)) = (if a = b then (1 : EReal) else 0) := by
  by_cases h : a = b
  · subst h
    have : IntOp.cmpi .eq a a = 1#1 := by simp [IntOp.cmpi]
    rw [this, if_pos rfl]
    show (((BitVec.setWidth 32 1#1).toInt : ℝ) : EReal) = 1
    rw [show (BitVec.setWidth 32 1#1).toInt = 1 by decide]
    simp
  · have h' : (a == b) = false := by simp [h]
    have : IntOp.cmpi .eq a b = 0#1 := by simp [IntOp.cmpi, h']
    rw [this, if_neg h]
    show (((BitVec.setWidth 32 0#1).toInt : ℝ) : EReal) = 0
    rw [show (BitVec.setWidth 32 0#1).toInt = 0 by decide]
    simp

/-- Different segment numbers are different words. -/
theorem ofNat_inj (g h : Fin 512) (e : BitVec.ofNat 32 g.val = BitVec.ofNat 32 h.val) : g = h := by
  have := congrArg BitVec.toNat e
  simp only [BitVec.toNat_ofNat] at this
  exact Fin.ext (by omega)

/-- A one-hot row times a segment table picks the table's entry. -/
theorem onehot_sum (a : BitVec 32) (g : Fin 512) (ha : a = BitVec.ofNat 32 g.val) (f : Fin 512 → EReal) :
    (∑ x : Fin 512, (if a = BitVec.ofNat 32 x.val then (1 : EReal) else 0) * f x) = f g := by
  rw [Finset.sum_eq_single g]
  · rw [if_pos ha, one_mul]
  · intro x _ hx
    rw [if_neg (fun e => hx (ofNat_inj x g (e.symm.trans ha))), zero_mul]
  · intro h; exact absurd (Finset.mem_univ g) h

/-- A small number's word is not negative. -/
theorem slt_zero (g : Fin 512) : IntOp.cmpi .slt (BitVec.ofNat 32 g.val) 0#32 = 0#1 := by
  have hg := g.isLt
  have h : (BitVec.ofNat 32 g.val).slt 0#32 = false := by
    simp only [BitVec.slt, WordCmp.toInt_ofNat_of_lt (w := 32) (show g.val < 2 ^ 31 by omega)]
    simp
  show BitVec.ofBool ((BitVec.ofNat 32 g.val).slt 0#32) = 0#1
  rw [h]; rfl

/-- The reference's mask literal is minus infinity. -/
theorem ofBits_negInf : Ideal.ofBits .f32 0xFF800000#32 = (⊥ : EReal) := by
  simp [Ideal.ofBits, Ideal.ieee]

/-- A 32-bit pattern whose exponent field is not all ones is a real number. -/
theorem real_of_exponent (b : BitVec 32) (h : (b.extractLsb' 23 8).toNat ≠ 2 ^ 8 - 1) : ∃ r : ℝ, Ideal.ofBits .f32 b = (r : EReal) := by
  simp only [Ideal.ofBits, Ideal.ieee, if_neg h]
  split
  · exact ⟨_, rfl⟩
  · exact ⟨_, rfl⟩

/-- The kernel's mask literal is a real number. -/
theorem ofBits_floor : ∃ r : ℝ, Ideal.ofBits .f32 0xF149F2CA#32 = (r : EReal) := real_of_exponent _ (by decide)

end Cert.Words
-- ==== Proof.Value.Stats.lean ====
/-
  What the first launch computes over the extended reals: the scores, and each segment's running maximum and running sum.
-/
module

public import proofs.«01_k».proof.Proof.Ideal.Arrays
public import proofs.«01_k».proof.Proof.Value.Softmax
public import proofs.«01_k».proof.Proof.Value.Words
public import Idealize.ShloMosaic.Lib.Pointwise
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.TcCoe
open Cert.Softmax (blockMax)

/-- The floor under every segment maximum: the kernel's mask literal. -/
def floorVal : EReal := Ideal.ofBits .f32 0xF149F2CA#32

/-- Node `r` of block `t`, for any number `t`. -/
def nodeN (t : ℕ) (r : Fin 2000) : Fin 100000 := ⟨(2000 * t + r.val) % 100000, Nat.mod_lt _ (by decide)⟩

/-- For a block number below 50, `nodeN` is `node`. -/
theorem nodeN_eq (t : Fin 50) (r : Fin 2000) : nodeN t.val r = node t r :=
  Fin.ext (Nat.mod_eq_of_lt (by have := t.isLt; have := r.isLt; omega))

/-- Every node lies in a block. -/
theorem node_cover (i : Fin 100000) : ∃ (t : Fin 50) (r : Fin 2000), node t r = i :=
  ⟨⟨i.val / 2000, by have := i.isLt; omega⟩, ⟨i.val % 2000, by omega⟩, Fin.ext (by show 2000 * (i.val / 2000) + i.val % 2000 = i.val; omega)⟩

/-- A sum over blocks and their entries is the sum over nodes. -/
theorem sum_blocks (f : Fin 100000 → EReal) : (∑ t ∈ Finset.range (49 + 1), ∑ r : Fin 2000, f (nodeN t r)) = ∑ i, f i := by
  rw [Fin.sum_univ_tiles 50 2000 (by decide) f, Finset.sum_range]
  refine Finset.sum_congr rfl fun t _ => Finset.sum_congr rfl fun r _ => congrArg f ?_
  refine (nodeN_eq t r).trans (Fin.ext ?_)
  show 2000 * t.val + r.val = t.val * 2000 + r.val
  omega

variable (x : Vec Ideal S100000x128 .f32) (w : Vec Ideal S128x1 .f32) (b : Vec Ideal S100000 .i32)

/-- Node `i`'s score. -/
def score (i : Fin 100000) : EReal := ∑ k : Fin 128, (x (ix2 i k) * w (ix2 k (0 : Fin 1)) : EReal)

/-- Node `i` is in segment `g`. -/
def inSeg (g : Fin 512) (i : Fin 100000) : Prop := b (ix1 i) = BitVec.ofNat 32 g.val

/-- Being in a segment is decided by comparing the words. -/
instance (g : Fin 512) (i : Fin 100000) : Decidable (inSeg b g i) := by unfold inSeg; infer_instance

section Payloads

variable (X : Vec Ideal S2000x128 .f32) (W : Vec Ideal S128x1 .f32) (B : Vec Ideal S1x1x2000 .i32) (m l : Vec Ideal S1x512 .f32)

/-- A block's scores, entry by entry. -/
theorem pay5_apply (r : Fin 2000) : k0_pay5 X W (ix1 r) = ∑ k : Fin 128, (X (ix2 r k) * W (ix2 k (0 : Fin 1)) : EReal) := by
  pointwise [k0_pay5, dot_S2000x128_S128x1_S2000x1_1_0_0_1_n_n]

/-- The stored scores, entry by entry. -/
theorem pay6_apply (r : Fin 2000) : k0_pay6 X W (ix3 (0 : Fin 1) (0 : Fin 1) r) = k0_pay5 X W (ix1 r) := by
  pointwise [k0_pay6]

/-- One block's new maximum row, entry by entry. -/
theorem mStep_apply (g : Fin 512) : mStep X W B m (ix2 (0 : Fin 1) g)
    = max (m (ix2 (0 : Fin 1) g) : EReal) (Finset.univ.fold max (⊥ : EReal) fun r : Fin 2000 =>
        if B (ix3 (0 : Fin 1) (0 : Fin 1) r) = BitVec.ofNat 32 g.val then (k0_pay5 X W (ix1 r) : EReal) else floorVal) := by
  pointwise [mStep, k0_pay9, k0_pay8, k0_pay7]
  simp only [Words.select_eq, Words.ofBits_negInf, floorVal]

/-- One block's new sum row, entry by entry. -/
theorem lStep_apply (g : Fin 512) : lStep X W B m l (ix2 (0 : Fin 1) g)
    = (l (ix2 (0 : Fin 1) g) : EReal) * Ideal.exp ((m (ix2 (0 : Fin 1) g) : EReal) - mStep X W B m (ix2 (0 : Fin 1) g))
      + ∑ r : Fin 2000, if B (ix3 (0 : Fin 1) (0 : Fin 1) r) = BitVec.ofNat 32 g.val
          then Ideal.exp ((k0_pay5 X W (ix1 r) : EReal) - mStep X W B m (ix2 (0 : Fin 1) g)) else 0 := by
  pointwise [lStep, k0_pay11, k0_pay10, k0_pay8, k0_pay7, mStep]
  simp only [Words.select_eq]
  congr 1
  refine Finset.sum_congr rfl fun r _ => ?_
  by_cases h : B (ix3 (0 : Fin 1) (0 : Fin 1) r) = BitVec.ofNat 32 g.val
  · simp only [if_pos h]
  · simp only [if_neg h]

/-- The maxima start at the floor value. -/
theorem mReset_apply (g : Fin 512) : (mReset : Vec Ideal S1x512 .f32) (ix2 (0 : Fin 1) g) = floorVal := by
  pointwise [mReset, k0_pay3, floorVal]
/-- The sums start at zero. -/
theorem lReset_apply (g : Fin 512) : (lReset : Vec Ideal S1x512 .f32) (ix2 (0 : Fin 1) g) = (0 : EReal) := by
  pointwise [lReset, k0_pay4]

end Payloads

section Launch

variable (V : Dev nD → Valuation τ sig (Elt Ideal)) (c : Dev nD)
variable (hx : ∀ i k, V c main_arg0 (ix2 i k) = x (ix2 i k)) (hw : ∀ k, V c main_arg1 (ix2 k (0 : Fin 1)) = w (ix2 k (0 : Fin 1)))
variable (hb : ∀ t r, V c main_v0 (ix3 t (0 : Fin 1) r) = b (ix1 (node t r)))

include hx hw in
/-- A block's scores are its nodes' scores. -/
theorem pay5_block (t : Fin 50) (r : Fin 2000) : k0_pay5 (blk0 V c 0 (pt0 t)) (blk0 V c 1 (pt0 t)) (ix1 r) = score x w (node t r) := by
  refine (pay5_apply (blk0 V c 0 (pt0 t)) (blk0 V c 1 (pt0 t)) r).trans (Finset.sum_congr rfl fun k _ => ?_)
  have e0 := (blk0_0_apply V c t r k).trans (hx _ _)
  have e1 := (blk0_1_apply V c t k).trans (hw k)
  exact congrArg₂ (fun p q : EReal => p * q) e0 e1

include hx hw in
/-- The scores stored at point `t`. -/
theorem sAt_apply (t : Fin 50) (r : Fin 2000) : sAt V c (pt0 t) (ix3 (0 : Fin 1) (0 : Fin 1) r) = score x w (node t r) :=
  (pay6_apply (blk0 V c 0 (pt0 t)) (blk0 V c 1 (pt0 t)) r).trans (pay5_block x w V c hx hw t r)

include hx hw hb in
/-- The maximum row after block `t`, from the row before it. -/
theorem mStep_block (t : Fin 50) (m : Vec Ideal S1x512 .f32) (g : Fin 512) :
    mStep (blk0 V c 0 (pt0 t)) (blk0 V c 1 (pt0 t)) (blk0 V c 2 (pt0 t)) m (ix2 (0 : Fin 1) g)
      = max (m (ix2 (0 : Fin 1) g) : EReal) (blockMax floorVal (fun t r => score x w (nodeN t r)) (fun t r => inSeg b g (nodeN t r)) t.val) := by
  refine (mStep_apply (blk0 V c 0 (pt0 t)) (blk0 V c 1 (pt0 t)) (blk0 V c 2 (pt0 t)) m g).trans ?_
  unfold blockMax
  congr 2
  funext r
  have e := (blk0_2_apply V c t r).trans (hb t r)
  show _ = if inSeg b g (nodeN t.val r) then score x w (nodeN t.val r) else floorVal
  rw [nodeN_eq]
  refine (if_congr (show _ ↔ inSeg b g (node t r) by rw [e]; exact Iff.rfl) (pay5_block x w V c hx hw t r) rfl)

include hx hw hb in
/-- The sum row after block `t`, from the rows before it. -/
theorem lStep_block (t : Fin 50) (m l : Vec Ideal S1x512 .f32) (g : Fin 512) (M : EReal)
    (hM : mStep (blk0 V c 0 (pt0 t)) (blk0 V c 1 (pt0 t)) (blk0 V c 2 (pt0 t)) m (ix2 (0 : Fin 1) g) = M) :
    lStep (blk0 V c 0 (pt0 t)) (blk0 V c 1 (pt0 t)) (blk0 V c 2 (pt0 t)) m l (ix2 (0 : Fin 1) g)
      = (l (ix2 (0 : Fin 1) g) : EReal) * Ideal.exp ((m (ix2 (0 : Fin 1) g) : EReal) - M)
        + ∑ r : Fin 2000, if inSeg b g (nodeN t.val r) then Ideal.exp (score x w (nodeN t.val r) - M) else 0 := by
  refine (lStep_apply (blk0 V c 0 (pt0 t)) (blk0 V c 1 (pt0 t)) (blk0 V c 2 (pt0 t)) m l g).trans ?_
  rw [hM]
  congr 1
  refine Finset.sum_congr rfl fun r _ => ?_
  have e := (blk0_2_apply V c t r).trans (hb t r)
  rw [nodeN_eq]
  exact if_congr (show _ ↔ inSeg b g (node t r) by rw [e]; exact Iff.rfl)
    (congrArg (fun q : EReal => Ideal.exp (q - M)) (pay5_block x w V c hx hw t r)) rfl

/-- Segment `g`'s running maximum after block `n`. -/
def mSeq (g : Fin 512) (n : ℕ) (h : n < 50) : EReal := mAt V c n (lt_of_lt_of_eq h N_0.symm) (ix2 (0 : Fin 1) g)
/-- Segment `g`'s running sum after block `n`. -/
def lSeq (g : Fin 512) (n : ℕ) (h : n < 50) : EReal := lAt V c n (lt_of_lt_of_eq h N_0.symm) (ix2 (0 : Fin 1) g)

include hx hw hb in
/-- The running maximum after the first block. -/
theorem mSeq_zero (g : Fin 512) (h : 0 < 50) : mSeq V c g 0 h
    = max floorVal (blockMax floorVal (fun t r => score x w (nodeN t r)) (fun t r => inSeg b g (nodeN t r)) 0) := by
  refine (congrFun (mAt_zero V c (pt0 0) rfl) _).trans ((mStep_block x w b V c hx hw hb 0 mReset g).trans ?_)
  rw [mReset_apply]; rfl

include hx hw hb in
/-- The running maximum after a later block, from the one before. -/
theorem mSeq_succ (g : Fin 512) (n : ℕ) (h : n + 1 < 50) : mSeq V c g (n + 1) h
    = max (mSeq V c g n (by omega)) (blockMax floorVal (fun t r => score x w (nodeN t r)) (fun t r => inSeg b g (nodeN t r)) (n + 1)) :=
  (congrFun (mAt_pos V c (pt0 ⟨n + 1, h⟩) (Nat.succ_ne_zero n)) _).trans (mStep_block x w b V c hx hw hb ⟨n + 1, h⟩ _ g)

include hx hw hb in
/-- The running sum after the first block. -/
theorem lSeq_zero (g : Fin 512) (h : 0 < 50) : lSeq V c g 0 h
    = ∑ r : Fin 2000, if inSeg b g (nodeN 0 r) then Ideal.exp (score x w (nodeN 0 r) - mSeq V c g 0 h) else 0 := by
  refine (congrFun (lAt_zero V c (pt0 0) rfl) _).trans ((lStep_block x w b V c hx hw hb 0 mReset lReset g (mSeq V c g 0 h)
    (congrFun (mAt_zero V c (pt0 0) rfl) _).symm).trans ?_)
  rw [lReset_apply, zero_mul, zero_add]; rfl

include hx hw hb in
/-- The running sum after a later block, from the one before. -/
theorem lSeq_succ (g : Fin 512) (n : ℕ) (h : n + 1 < 50) : lSeq V c g (n + 1) h
    = lSeq V c g n (by omega) * Ideal.exp (mSeq V c g n (by omega) - mSeq V c g (n + 1) h)
      + ∑ r : Fin 2000, if inSeg b g (nodeN (n + 1) r) then Ideal.exp (score x w (nodeN (n + 1) r) - mSeq V c g (n + 1) h) else 0 :=
  (congrFun (lAt_pos V c (pt0 ⟨n + 1, h⟩) (Nat.succ_ne_zero n)) _).trans
    (lStep_block x w b V c hx hw hb ⟨n + 1, h⟩ _ _ g (mSeq V c g (n + 1) h) (congrFun (mAt_pos V c (pt0 ⟨n + 1, h⟩) (Nat.succ_ne_zero n)) _).symm)

include hx hw hb in
/-- The last maximum is the least bound of the floor and of the segment's scores. -/
theorem mLast_le (g : Fin 512) (X : EReal) : mSeq V c g 49 (by decide) ≤ X ↔ floorVal ≤ X ∧ ∀ i, inSeg b g i → score x w i ≤ X := by
  refine (Softmax.runMax floorVal _ _ (mSeq V c g) (mSeq_zero x w b V c hx hw hb g) (mSeq_succ x w b V c hx hw hb g) 49 (by decide) X).trans ?_
  refine and_congr Iff.rfl ⟨fun h i hi => ?_, fun h t _ r hr => h _ hr⟩
  obtain ⟨t, r, rfl⟩ := node_cover i
  have := h t.val (by omega) r
  rw [nodeN_eq] at this
  exact this hi

include hx hw hb in
/-- The last sum is the sum of the segment's exponentials at the last maximum. -/
theorem lLast_eq (g : Fin 512) : lSeq V c g 49 (by decide)
    = ∑ i, if inSeg b g i then Ideal.exp (score x w i - mSeq V c g 49 (by decide)) else 0 := by
  have hf : floorVal ≠ ⊥ := by
    obtain ⟨r, hr⟩ := Words.ofBits_floor
    rw [floorVal, hr]; exact EReal.coe_ne_bot r
  refine (Softmax.runSum floorVal _ _ hf (mSeq V c g) (lSeq V c g) (mSeq_zero x w b V c hx hw hb g) (mSeq_succ x w b V c hx hw hb g)
    (lSeq_zero x w b V c hx hw hb g) (lSeq_succ x w b V c hx hw hb g) 49 (by decide)).trans ?_
  exact sum_blocks fun i => if inSeg b g i then Ideal.exp (score x w i - mSeq V c g 49 (by decide)) else 0

end Launch

end Cert.KernelIdeal.Hand
-- ==== Proof.Value.Readout.lean ====
/-
  What the second launch computes over the extended reals: the softmax weights and the weighted sums of the node features.
-/
module

public import proofs.«01_k».proof.Proof.Value.Stats

@[expose] public section

set_option maxRecDepth 16384

noncomputable section

namespace Cert.KernelIdeal.Hand

open Cert.KernelIdeal Cert.KernelIdeal.Gen
open Idealize.ShloMosaic Idealize.ShloMosaic.TcCoe

section Payloads

variable (X : Vec Ideal S2000x128 .f32) (S : Vec Ideal S1x1x2000 .f32) (B : Vec Ideal S1x1x2000 .i32) (m l : Vec Ideal S1x512 .f32)

/-- A block's weight at an entry whose segment is `g`. -/
theorem pay4_apply (r : Fin 2000) (g : Fin 512) (h : B (ix3 (0 : Fin 1) (0 : Fin 1) r) = BitVec.ofNat 32 g.val) :
    k1_pay4 S B m l (ix1 r)
      = Ideal.div (Ideal.exp ((S (ix3 (0 : Fin 1) (0 : Fin 1) r) : EReal) - m (ix2 (0 : Fin 1) g))) (l (ix2 (0 : Fin 1) g)) := by
  pointwise [k1_pay4, k1_pay3, dot_S2000x512_S512x1_S2000x1_1_0_0_1_n_n]
  simp only [Words.onehot_eq]
  rw [Words.onehot_sum _ g h fun q => m (ix2 (0 : Fin 1) q), Words.onehot_sum _ g h fun q => l (ix2 (0 : Fin 1) q)]

/-- The stored weights, entry by entry. -/
theorem pay5W_apply (r : Fin 2000) : k1_pay5 S B m l (ix3 (0 : Fin 1) (0 : Fin 1) r) = k1_pay4 S B m l (ix1 r) := by
  pointwise [k1_pay5]

/-- One block's addition to the readout, entry by entry. -/
theorem accStep_apply (acc : Vec Ideal S512x128 .f32) (g : Fin 512) (k : Fin 128) :
    accStep X B S m l acc (ix2 g k) = (acc (ix2 g k) : EReal) + ∑ r : Fin 2000,
      if B (ix3 (0 : Fin 1) (0 : Fin 1) r) = BitVec.ofNat 32 g.val then (X (ix2 r k) * k1_pay4 S B m l (ix1 r) : EReal) else 0 := by
  pointwise [accStep, k1_pay6, k1_pay3, dot_S2000x512_S2000x128_S512x128_0_0_1_1_n_n]
  simp only [Words.onehot_eq]
  congr 1
  refine Finset.sum_congr rfl fun r _ => ?_
  by_cases h : B (ix3 (0 : Fin 1) (0 : Fin 1) r) = BitVec.ofNat 32 g.val
  · simp only [if_pos h, one_mul]; exact mul_comm _ _
  · simp only [if_neg h, zero_mul]

/-- The readout starts at zero. -/
theorem accReset_apply (g : Fin 512) (k : Fin 128) : (accReset : Vec Ideal S512x128 .f32) (ix2 g k) = (0 : EReal) := by
  pointwise [accReset, k1_pay2]

end Payloads

section Launch

variable (x : Vec Ideal S100000x128 .f32) (b : Vec Ideal S100000 .i32) (s : Fin 100000 → EReal) (M L : Fin 512 → EReal)
variable (seg : Fin 100000 → Fin 512) (hseg : ∀ i, inSeg b (seg i) i)
variable (V : Dev nD → Valuation τ sig (Elt Ideal)) (c : Dev nD)
variable (hx : ∀ i k, V c main_arg0 (ix2 i k) = x (ix2 i k)) (hb : ∀ t r, V c main_v0 (ix3 t (0 : Fin 1) r) = b (ix1 (node t r)))
variable (hs : ∀ t r, V c main_v1_0 (ix3 t (0 : Fin 1) r) = s (node t r))
variable (hM : ∀ g, V c main_v1_1 (ix2 (0 : Fin 1) g) = M g) (hL : ∀ g, V c main_v1_2 (ix2 (0 : Fin 1) g) = L g)

/-- Node `i`'s softmax weight, from the scores `s`, the segment maxima `M` and the segment sums `L`. -/
def weight (i : Fin 100000) : EReal := Ideal.div (Ideal.exp (s i - M (seg i))) (L (seg i))

include hseg hb hs hM hL in
/-- A block's weights are its nodes' weights. -/
theorem pay4_block (t : Fin 50) (r : Fin 2000) :
    k1_pay4 (blk1 V c 2 (pt1 t)) (blk1 V c 1 (pt1 t)) (blk1 V c 3 (pt1 t)) (blk1 V c 4 (pt1 t)) (ix1 r) = weight s M L seg (node t r) := by
  have e1 := (blk1_1_apply V c t r).trans (hb t r)
  refine (pay4_apply (blk1 V c 2 (pt1 t)) (blk1 V c 1 (pt1 t)) (blk1 V c 3 (pt1 t)) (blk1 V c 4 (pt1 t)) r (seg (node t r)) (e1.trans (hseg _))).trans ?_
  have e2 := (blk1_2_apply V c t r).trans (hs t r)
  have e3 := (blk1_3_apply V c t (seg (node t r))).trans (hM _)
  have e4 := (blk1_4_apply V c t (seg (node t r))).trans (hL _)
  unfold weight
  exact congrArg₂ Ideal.div (congrArg Ideal.exp (congrArg₂ (fun p q : EReal => p - q) e2 e3)) e4

include hseg hb hs hM hL in
/-- The weights stored at point `t`. -/
theorem wAt_apply (t : Fin 50) (r : Fin 2000) : wAt V c (pt1 t) (ix3 (0 : Fin 1) (0 : Fin 1) r) = weight s M L seg (node t r) :=
  (pay5W_apply (blk1 V c 2 (pt1 t)) (blk1 V c 1 (pt1 t)) (blk1 V c 3 (pt1 t)) (blk1 V c 4 (pt1 t)) r).trans
    (pay4_block b s M L seg hseg V c hb hs hM hL t r)

include hseg hx hb hs hM hL in
/-- The readout after block `t`, from the readout before it. -/
theorem accStep_block (t : Fin 50) (acc : Vec Ideal S512x128 .f32) (g : Fin 512) (k : Fin 128) :
    accStep (blk1 V c 0 (pt1 t)) (blk1 V c 1 (pt1 t)) (blk1 V c 2 (pt1 t)) (blk1 V c 3 (pt1 t)) (blk1 V c 4 (pt1 t)) acc (ix2 g k)
      = (acc (ix2 g k) : EReal) + ∑ r : Fin 2000, if inSeg b g (nodeN t.val r) then x (ix2 (nodeN t.val r) k) * weight s M L seg (nodeN t.val r) else 0 := by
  refine (accStep_apply (blk1 V c 0 (pt1 t)) (blk1 V c 2 (pt1 t)) (blk1 V c 1 (pt1 t)) (blk1 V c 3 (pt1 t)) (blk1 V c 4 (pt1 t)) acc g k).trans ?_
  congr 1
  refine Finset.sum_congr rfl fun r _ => ?_
  rw [nodeN_eq]
  have e0 := (blk1_0_apply V c t r k).trans (hx _ _)
  have e1 := (blk1_1_apply V c t r).trans (hb t r)
  exact if_congr (show _ ↔ inSeg b g (node t r) by rw [e1]; exact Iff.rfl)
    (congrArg₂ (fun p q : EReal => p * q) e0 (pay4_block b s M L seg hseg V c hb hs hM hL t r)) rfl

include hseg hx hb hs hM hL in
/-- The readout after block `n` is the sum over the blocks so far. -/
theorem acc_sum (g : Fin 512) (k : Fin 128) : ∀ (n : ℕ) (h : n < 50), accAt V c n (lt_of_lt_of_eq h N_1.symm) (ix2 g k)
    = ∑ t ∈ Finset.range (n + 1), ∑ r : Fin 2000, if inSeg b g (nodeN t r) then x (ix2 (nodeN t r) k) * weight s M L seg (nodeN t r) else (0 : EReal) := by
  intro n
  induction n with
  | zero =>
    intro h
    refine (congrFun (accAt_zero V c (pt1 0) rfl) _).trans ((accStep_block x b s M L seg hseg V c hx hb hs hM hL 0 accReset g k).trans ?_)
    rw [accReset_apply, zero_add, Finset.sum_range_one]; rfl
  | succ n ih =>
    intro h
    refine (congrFun (accAt_pos V c (pt1 ⟨n + 1, h⟩) (Nat.succ_ne_zero n)) _).trans ((accStep_block x b s M L seg hseg V c hx hb hs hM hL ⟨n + 1, h⟩ _ g k).trans ?_)
    rw [Finset.sum_range_succ _ (n + 1), ← ih (by omega)]
    rfl

include hseg hx hb hs hM hL in
/-- The last readout: each segment's sum of feature times weight. -/
theorem acc_last (g : Fin 512) (k : Fin 128) : accAt V c 49 (lt_of_lt_of_eq (by decide) N_1.symm) (ix2 g k)
    = ∑ i, if inSeg b g i then x (ix2 i k) * weight s M L seg i else (0 : EReal) :=
  (acc_sum x b s M L seg hseg V c hx hb hs hM hL g k 49 (by decide)).trans
    (sum_blocks fun i => if inSeg b g i then x (ix2 i k) * weight s M L seg i else (0 : EReal))

end Launch

end Cert.KernelIdeal.Hand
-- ==== Proof.Value.Buffers.lean ====
/-
  What the run's buffers hold from launch to launch over the extended reals, down to the two results.
-/
module

public import proofs.«01_k».proof.Proof.Ideal.Run
public import proofs.«01_k».proof.Proof.Value.Readout
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-- The node features at launch. -/
def argX : Vec Ideal S100000x128 .f32 := m ((c : Thread nD τ).loc main_arg0)
/-- The attention column at launch. -/
def argW : Vec Ideal S128x1 .f32 := m ((c : Thread nD τ).loc main_arg1)
/-- The segment ids at launch. -/
def argB : Vec Ideal S100000 .i32 := m ((c : Thread nD τ).loc main_arg2)

/-! ## Before the first launch -/

/-- The first launch finds the node features as launched. -/
theorem V1_x (i : Fin 100000) (k : Fin 128) : V1 m c main_arg0 (ix2 i k) = argX m c (ix2 i k) :=
  congrFun (V1_of m c main_arg0 (by decide)) _
/-- The first launch finds the attention column as launched. -/
theorem V1_w (k : Fin 128) : V1 m c main_arg1 (ix2 k (0 : Fin 1)) = argW m c (ix2 k (0 : Fin 1)) :=
  congrFun (V1_of m c main_arg1 (by decide)) _

/-- The ids, cut into blocks of 2000. -/
theorem cut_apply (b : Vec Ideal S100000 .i32) (t : Fin 50) (r : Fin 2000) :
    shapeCast S50x1x2000 b shapeCasts_S100000_S50x1x2000 (ix3 t (0 : Fin 1) r) = b (ix1 (node t r)) := by
  pointwise [node]
  exact congrArg (fun i => b (ix1 i)) (Fin.ext (by simp only; omega))

/-- The blocks of weights, joined. -/
theorem join_apply (a : Vec Ideal S50x1x2000 .f32) (t : Fin 50) (r : Fin 2000) :
    shapeCast S100000 a shapeCasts_S50x1x2000_S100000 (ix1 (node t r)) = a (ix3 t (0 : Fin 1) r) := by
  pointwise [node]

/-- The first launch finds the ids cut into blocks. -/
theorem V1_ids : V1 m c main_v0 = shapeCast S50x1x2000 (argB m c) shapeCasts_S100000_S50x1x2000 := by
  unfold V1; after_results_simp; rfl

/-- The ids the first launch finds, entry by entry. -/
theorem V1_b (t : Fin 50) (r : Fin 2000) : V1 m c main_v0 (ix3 t (0 : Fin 1) r) = argB m c (ix1 (node t r)) :=
  (congrFun (V1_ids m c) _).trans (cut_apply _ t r)

/-! ## Between the launches -/

/-- The second launch finds the node features as launched. -/
theorem vStats_x (i : Fin 100000) (k : Fin 128) : vStats m c main_arg0 (ix2 i k) = argX m c (ix2 i k) :=
  (congrFun (vStats_keeps m c main_arg0 (by decide)) _).trans (V1_x m c i k)
/-- The ids the second launch finds, entry by entry. -/
theorem vStats_b (t : Fin 50) (r : Fin 2000) : vStats m c main_v0 (ix3 t (0 : Fin 1) r) = argB m c (ix1 (node t r)) :=
  (congrFun (vStats_keeps m c main_v0 (by decide)) _).trans (V1_b m c t r)

/-- The score array holds every node's score. -/
theorem vStats_s (t : Fin 50) (r : Fin 2000) : vStats m c main_v1_0 (ix3 t (0 : Fin 1) r) = score (argX m c) (argW m c) (node t r) :=
  (congrFun (Pipeline.afterRegion_arr (dat0 (V1 m) c) (V1 m c) launch0.win.arr_inj 3) _).trans <|
    (scores_apply (V1 m) c t r).trans (sAt_apply (argX m c) (argW m c) (V1 m) c (V1_x m c) (V1_w m c) t r)

/-- Segment `g`'s maximum as the first launch leaves it. -/
def segM (g : Fin 512) : EReal := mSeq (V1 m) c g 49 (by decide)
/-- Segment `g`'s sum as the first launch leaves it. -/
def segL (g : Fin 512) : EReal := lSeq (V1 m) c g 49 (by decide)

/-- The maxima the second launch finds. -/
theorem vStats_m (g : Fin 512) : vStats m c main_v1_1 (ix2 (0 : Fin 1) g) = segM m c g :=
  (congrFun (Pipeline.afterRegion_arr (dat0 (V1 m) c) (V1 m c) launch0.win.arr_inj 4) _).trans (maxima_apply (V1 m) c _)
/-- The sums the second launch finds. -/
theorem vStats_l (g : Fin 512) : vStats m c main_v1_2 (ix2 (0 : Fin 1) g) = segL m c g :=
  (congrFun (Pipeline.afterRegion_arr (dat0 (V1 m) c) (V1 m c) launch0.win.arr_inj 5) _).trans (sums_apply (V1 m) c _)

/-- The segment maximum is bounded by just the bounds of the floor value and the segment's scores. -/
theorem segM_le (g : Fin 512) (X : EReal) :
    segM m c g ≤ X ↔ floorVal ≤ X ∧ ∀ i, inSeg (argB m c) g i → score (argX m c) (argW m c) i ≤ X :=
  mLast_le (argX m c) (argW m c) (argB m c) (V1 m) c (V1_x m c) (V1_w m c) (V1_b m c) g X

/-- The segment sum adds the exponentials of the segment's scores, shifted by the segment maximum. -/
theorem segL_eq (g : Fin 512) :
    segL m c g = ∑ i, if inSeg (argB m c) g i then Ideal.exp (score (argX m c) (argW m c) i - segM m c g) else 0 :=
  lLast_eq (argX m c) (argW m c) (argB m c) (V1 m) c (V1_x m c) (V1_w m c) (V1_b m c) g

/-! ## The results -/

variable (seg : Fin 100000 → Fin 512) (hseg : ∀ i, inSeg (argB m c) (seg i) i)

/-- Node `i`'s weight in the run. -/
def runWeight (i : Fin 100000) : EReal := weight (score (argX m c) (argW m c)) (segM m c) (segL m c) seg i

/-- The weight result is the blocks of weights joined. -/
theorem vEnd_joined : vEnd m c main_v3 = shapeCast S100000 (vReadout m c main_v2_0) shapeCasts_S50x1x2000_S100000 := by
  unfold vEnd; after_results_simp; rfl

include hseg in
/-- The weight result, entry by entry. -/
theorem vEnd_weights (i : Fin 100000) : vEnd m c main_v3 (ix1 i) = runWeight m c seg i := by
  obtain ⟨t, r, rfl⟩ := node_cover i
  refine (congrFun (vEnd_joined m c) _).trans ((join_apply (vReadout m c main_v2_0) t r).trans ?_)
  refine (congrFun (Pipeline.afterRegion_arr (dat1 (vStats m) c) (vStats m c) launch1.win.arr_inj 5) _).trans ((weights_apply (vStats m) c t r).trans ?_)
  exact wAt_apply (argB m c) (score (argX m c) (argW m c)) (segM m c) (segL m c) seg hseg (vStats m) c (vStats_b m c) (vStats_s m c) (vStats_m m c) (vStats_l m c) t r

include hseg in
/-- The readout result, entry by entry. -/
theorem vEnd_readout (g : Fin 512) (k : Fin 128) : vEnd m c main_v2_1 (ix2 g k)
    = ∑ i, if inSeg (argB m c) g i then argX m c (ix2 i k) * runWeight m c seg i else (0 : EReal) := by
  refine (congrFun (vEnd_keeps m c main_v2_1 (by decide)) _).trans ?_
  refine (congrFun (Pipeline.afterRegion_arr (dat1 (vStats m) c) (vStats m c) launch1.win.arr_inj 6) _).trans ((readout_apply (vStats m) c _).trans ?_)
  exact acc_last (argX m c) (argB m c) (score (argX m c) (argW m c)) (segM m c) (segL m c) seg hseg (vStats m) c (vStats_x m c) (vStats_b m c) (vStats_s m c)
    (vStats_m m c) (vStats_l m c) g k

end Cert.KernelIdeal.Hand
-- ==== Proof.Value.Reference.lean ====
/-
  What the reference computes, read element by element, for segment ids in range.
-/
module

public import proofs.«01_k».proof.Proof.Gen.ReferenceIdeal
public import proofs.«01_k».proof.Proof.Gen.ReferenceIdeal.Run
public import Idealize.ShloMosaic.Lib.Pointwise
public import Idealize.ShloMosaic.PureOps.Ideal.Laws
public import Idealize.ShloMosaic.Lib.StableHlo.Predicate
public import Idealize.ShloMosaic.Lib.WordCmp
public import proofs.«01_k».proof.Proof.Value.Words
public import Idealize.ShloMosaic.Lib.Pointwise.IndexBridge
public import Idealize.ShloMosaic.Lib.ValueIdxRank1
public import Idealize.ShloMosaic.Lib.Routing.OpsSearch

@[expose] public section

set_option maxRecDepth 16384

noncomputable section

namespace Cert.ReferenceIdeal.Hand

open Cert.ReferenceIdeal Cert.ReferenceIdeal.Gen
open Idealize.ShloMosaic

/-- The reference's scores. -/
def score (x : FVec Ideal S100000x128 .f32) (w : FVec Ideal S128x1 .f32) : FVec Ideal S100000 .f32 :=
  shapeCast _ (Host.dotGeneral dot_S100000x128_S128x1_S100000x1_1_0_0_1_n_n none x w) shapeCasts_S100000x1_S100000

/-- The reference's segment maxima of the scores `s`. -/
def segMax (s : FVec Ideal S100000 .f32) (b : IVec S100000 32) : FVec Ideal S512 .f32 :=
  Host.reduce FloatOps.maximumf (select (cmpi .eq (broadcastInDim S100000x512 ![0, 1] bcast_S100000x1_S100000x512_0_1 (broadcastInDim S100000x1 ![0] bcast_S100000_S100000x1_0 b)) (broadcastInDim S100000x512 ![0, 1] bcast_S1x512_S100000x512_0_1 (broadcastInDim S1x512 ![1] bcast_S512_S1x512_1 (iotaInDim S512 32 0)))) (broadcastInDim S100000x512 ![0, 1] bcast_S100000x1_S100000x512_0_1 (broadcastInDim S100000x1 ![0] bcast_S100000_S100000x1_0 s)) (broadcastInDim S100000x512 ![] bcast_S_S100000x512 (id (constant S_ .f32 0xFF800000#32)))) (constant S_ .f32 0xFF800000#32) reducesTo_S100000x512_S512_d0 h_S_

/-- A segment table read at every node's segment id. -/
def atSeg (v : FVec Ideal S512 .f32) (b : IVec S100000 32) : FVec Ideal S100000 .f32 :=
  Host.gather gather_S512_S100000x1_S100000_n_0_n_n_0_1_1 v (broadcastInDim S100000x1 ![0] bcast_S100000_S100000x1_0 (select (cmpi .slt b (broadcastInDim S100000 ![] bcast_S_S100000 (constantI S_ 32 0#32))) (addi b (broadcastInDim S100000 ![] bcast_S_S100000 (constantI S_ 32 512#32))) b))

/-- A per-node vector added up by segment. -/
def segSum (e : FVec Ideal S100000 .f32) (b : IVec S100000 32) : FVec Ideal S512 .f32 :=
  Host.scatterAdd scatter_S512_S100000x1_S100000_n_0_0_1 (broadcastInDim S512 ![] bcast_S_S512 (constant S_ .f32 0x00000000#32)) (broadcastInDim S100000x1 ![0] bcast_S100000_S100000x1_0 b) e

/-- The weighted node features added up by segment. -/
def readout (x : FVec Ideal S100000x128 .f32) (a : FVec Ideal S100000 .f32) (b : IVec S100000 32) : FVec Ideal S512x128 .f32 :=
  Host.scatterAdd scatter_S512x128_S100000x1_S100000x128_1_0_0_1 (broadcastInDim S512x128 ![] bcast_S_S512x128 (constant S_ .f32 0x00000000#32)) (broadcastInDim S100000x1 ![0] bcast_S100000_S100000x1_0 b) (mulf x (broadcastInDim S100000x128 ![0, 1] bcast_S100000x1_S100000x128_0_1 (broadcastInDim S100000x1 ![0] bcast_S100000_S100000x1_0 a)))

/-- Where an update lands, coordinate by coordinate. -/
theorem resultIdx_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  constructor
  · intro h
    split at h
    · rename_i hb
      intro a
      have := congrFun (Option.some.inj h) a
      have e : (d.start j idx a + d.window j a).toNat = (i a).val := congrArg Fin.val this
      have := (hb a).1
      omega
    · exact absurd h (by simp)
  · intro h
    rw [dif_pos fun a => by rw [h a]; exact ⟨Int.natCast_nonneg _, by exact_mod_cast (i a).isLt⟩]
    congr 1
    funext a
    apply Fin.ext
    show (d.start j idx a + d.window j a).toNat = (i a).val
    rw [h a]; rfl

/-- An in-range segment id is the number it is compared with exactly when its signed reading is that number. -/
theorem toInt_eq_iff (b : BitVec 32) (g : Fin 512) : b.toInt = (g.val : Int) ↔ b = BitVec.ofNat 32 g.val := by
  have hg := g.isLt
  constructor
  · intro h
    apply BitVec.eq_of_toInt_eq
    rw [h, WordCmp.toInt_ofNat_of_lt (w := 32) (by omega)]
  · rintro rfl
    rw [WordCmp.toInt_ofNat_of_lt (w := 32) (by omega)]

/-- The reference's scores, entry by entry. -/
theorem score_apply (x : FVec Ideal S100000x128 .f32) (w : FVec Ideal S128x1 .f32) (i : Fin 100000) :
    score x w (ix1 i) = ∑ k : Fin 128, (x (ix2 i k) * w (ix2 k (0 : Fin 1)) : EReal) := by
  pointwise [score, dot_S100000x128_S128x1_S100000x1_1_0_0_1_n_n, Host.dotGeneral]

/-- The reference's segment maximum is the least bound of the segment's scores. -/
theorem segMax_le (s : FVec Ideal S100000 .f32) (b : IVec S100000 32) (g : Fin 512) (X : EReal) :
    segMax s b (ix1 g) ≤ X ↔ ∀ i : Fin 100000, b (ix1 i) = BitVec.ofNat 32 g.val → (s (ix1 i) : EReal) ≤ X := by
  have hb : Ideal.ofBits .f32 0xFF800000#32 = (⊥ : EReal) := Words.ofBits_negInf
  have h : segMax s b (ix1 g) = Finset.univ.fold max (⊥ : EReal) fun i : Fin 100000 => if b (ix1 i) = BitVec.ofNat 32 g.val then s (ix1 i) else (⊥ : EReal) := by
    pointwise [segMax, id]
    simp only [Words.select_eq, hb]
  rw [h, Finset.fold_max_le]
  constructor
  · rintro ⟨-, h⟩ i hi
    have := h i (Finset.mem_univ i)
    rwa [if_pos hi] at this
  · intro h
    refine ⟨bot_le, fun i _ => ?_⟩
    by_cases hi : b (ix1 i) = BitVec.ofNat 32 g.val
    · rw [if_pos hi]; exact h i hi
    · rw [if_neg hi]; exact bot_le

/-- A segment table read at a node whose id is in range is the table's entry there. -/
theorem atSeg_apply (v : FVec Ideal S512 .f32) (b : IVec S100000 32) (i : Fin 100000) (g : Fin 512) (h : b (ix1 i) = BitVec.ofNat 32 g.val) :
    atSeg v b (ix1 i) = v (ix1 g) := by
  have hg := g.isLt
  rw [ix1_eq_valueIdx, ix1_eq_valueIdx]
  refine Routing.take_ap gather_S512_S100000x1_S100000_n_0_n_n_0_1_1 rfl rfl rfl rfl v _ i g.isLt (by omega) ?_
  rw [← ix2_eq_valueIdx]
  pointwise
  rw [h]
  rw [Words.slt_zero]
  rfl

/-- The column of segment ids, entry by entry. -/
theorem col_apply (b : IVec S100000 32) (i : Fin 100000) : broadcastInDim S100000x1 ![0] bcast_S100000_S100000x1_0 b (ix2 i (0 : Fin 1)) = b (ix1 i) := by
  pointwise

/-- A segment sum, entry by entry: the sum over the nodes whose id is that segment. -/
theorem segSum_apply (e : FVec Ideal S100000 .f32) (b : IVec S100000 32) (g : Fin 512) :
    segSum e b (ix1 g) = ∑ i : Fin 100000, if b (ix1 i) = BitVec.ofNat 32 g.val then e (ix1 i) else (0 : EReal) := by
  have hz : broadcastInDim S512 ![] bcast_S_S512 (constant (F := Ideal) S_ .f32 0x00000000#32) (ix1 g) = (0 : EReal) := by pointwise
  show broadcastInDim S512 ![] bcast_S_S512 (constant (F := Ideal) S_ .f32 0x00000000#32) (ix1 g) + ∑ j ∈ Finset.univ.filter (fun j => scatter_S512_S100000x1_S100000_n_0_0_1.resultIdx? j (broadcastInDim S100000x1 ![0] bcast_S100000_S100000x1_0 b) = some (ix1 g)), e j = _
  rw [hz, zero_add, Finset.sum_filter]
  rw [← Equiv.sum_comp (ValueIdx.idxEquiv1 (n := 100000)).symm, show (⇑(ValueIdx.idxEquiv1 (n := 100000)).symm) = ix1 from funext fun i => (ix1_eq_valueIdx i).symm]
  refine Finset.sum_congr rfl fun i _ => ?_
  have h : scatter_S512_S100000x1_S100000_n_0_0_1.resultIdx? (ix1 i) (broadcastInDim S100000x1 ![0] bcast_S100000_S100000x1_0 b) = some (ix1 g) ↔ b (ix1 i) = BitVec.ofNat 32 g.val := by
    rw [resultIdx_iff, ← toInt_eq_iff, ← col_apply b i]
    have hs : scatter_S512_S100000x1_S100000_n_0_0_1.siIdx (ix1 i) ⟨0, by decide⟩ = ix2 i (0 : Fin 1) := by
      funext a; match a with | ⟨0, _⟩ => rfl | ⟨1, _⟩ => rfl
    have h0 : scatter_S512_S100000x1_S100000_n_0_0_1.start (ix1 i) (broadcastInDim S100000x1 ![0] bcast_S100000_S100000x1_0 b) 0 = (broadcastInDim S100000x1 ![0] bcast_S100000_S100000x1_0 b (ix2 i (0 : Fin 1))).toInt := by
      rw [← hs]; rfl
    have h1 : scatter_S512_S100000x1_S100000_n_0_0_1.window (ix1 i) 0 = 0 := rfl
    have hg : ((ix1 g : S512.Idx) 0).val = g.val := rfl
    constructor
    · intro h
      have := h 0
      rw [h0, h1, hg] at this
      omega
    · intro h a
      match a with
      | ⟨0, _⟩ =>
        show scatter_S512_S100000x1_S100000_n_0_0_1.start (ix1 i) _ 0 + (scatter_S512_S100000x1_S100000_n_0_0_1.window (ix1 i) 0 : Int) = (((ix1 g : S512.Idx) 0).val : Int)
        rw [h0, h1, hg]
        omega
  exact if_congr h rfl rfl

/-- The readout, entry by entry: the sum over the segment's nodes of feature times weight. -/
theorem readout_apply (x : FVec Ideal S100000x128 .f32) (a : FVec Ideal S100000 .f32) (b : IVec S100000 32) (g : Fin 512) (k : Fin 128) :
    readout x a b (ix2 g k) = ∑ i : Fin 100000, if b (ix1 i) = BitVec.ofNat 32 g.val then (x (ix2 i k) * a (ix1 i) : EReal) else 0 := by
  have hz : broadcastInDim S512x128 ![] bcast_S_S512x128 (constant (F := Ideal) S_ .f32 0x00000000#32) (ix2 g k) = (0 : EReal) := by pointwise
  show broadcastInDim S512x128 ![] bcast_S_S512x128 (constant (F := Ideal) S_ .f32 0x00000000#32) (ix2 g k) + ∑ j ∈ Finset.univ.filter (fun j => scatter_S512x128_S100000x1_S100000x128_1_0_0_1.resultIdx? j (broadcastInDim S100000x1 ![0] bcast_S100000_S100000x1_0 b) = some (ix2 g k)), mulf x (broadcastInDim S100000x128 ![0, 1] bcast_S100000x1_S100000x128_0_1 (broadcastInDim S100000x1 ![0] bcast_S100000_S100000x1_0 a)) j = _
  rw [hz, zero_add, Finset.sum_filter, ValueIdx.sum_idx2]
  refine Finset.sum_congr rfl fun i _ => ?_
  simp only [← ix2_eq_valueIdx]
  have hmul (q : Fin 128) : mulf x (broadcastInDim S100000x128 ![0, 1] bcast_S100000x1_S100000x128_0_1 (broadcastInDim S100000x1 ![0] bcast_S100000_S100000x1_0 a)) (ix2 i q) = (x (ix2 i q) * a (ix1 i) : EReal) := by
    pointwise
  have h (q : Fin 128) : scatter_S512x128_S100000x1_S100000x128_1_0_0_1.resultIdx? (ix2 i q) (broadcastInDim S100000x1 ![0] bcast_S100000_S100000x1_0 b) = some (ix2 g k) ↔ b (ix1 i) = BitVec.ofNat 32 g.val ∧ q = k := by
    rw [resultIdx_iff, ← toInt_eq_iff, ← col_apply b i]
    have hs : scatter_S512x128_S100000x1_S100000x128_1_0_0_1.siIdx (ix2 i q) ⟨0, by decide⟩ = ix2 i (0 : Fin 1) := by
      funext a; match a with | ⟨0, _⟩ => rfl | ⟨1, _⟩ => rfl
    have h0 : scatter_S512x128_S100000x1_S100000x128_1_0_0_1.start (ix2 i q) (broadcastInDim S100000x1 ![0] bcast_S100000_S100000x1_0 b) 0 = (broadcastInDim S100000x1 ![0] bcast_S100000_S100000x1_0 b (ix2 i (0 : Fin 1))).toInt := by
      rw [← hs]; rfl
    have h0' : scatter_S512x128_S100000x1_S100000x128_1_0_0_1.start (ix2 i q) (broadcastInDim S100000x1 ![0] bcast_S100000_S100000x1_0 b) 1 = 0 := rfl
    have h1 : scatter_S512x128_S100000x1_S100000x128_1_0_0_1.window (ix2 i q) 0 = 0 := rfl
    have h1' : scatter_S512x128_S100000x1_S100000x128_1_0_0_1.window (ix2 i q) 1 = q.val := rfl
    have hg : ((ix2 g k : S512x128.Idx) 0).val = g.val := rfl
    have hk : ((ix2 g k : S512x128.Idx) 1).val = k.val := rfl
    constructor
    · intro h
      have e0 := h 0
      have e1 := h 1
      rw [h0, h1, hg] at e0
      rw [h0', h1', hk] at e1
      exact ⟨by omega, Fin.ext (by omega)⟩
    · rintro ⟨h, rfl⟩ a
      match a with
      | ⟨0, _⟩ =>
        show scatter_S512x128_S100000x1_S100000x128_1_0_0_1.start (ix2 i q) _ 0 + (scatter_S512x128_S100000x1_S100000x128_1_0_0_1.window (ix2 i q) 0 : Int) = (((ix2 g q : S512x128.Idx) 0).val : Int)
        rw [h0, h1, hg]
        omega
      | ⟨1, _⟩ =>
        show scatter_S512x128_S100000x1_S100000x128_1_0_0_1.start (ix2 i q) _ 1 + (scatter_S512x128_S100000x1_S100000x128_1_0_0_1.window (ix2 i q) 1 : Int) = (((ix2 g q : S512x128.Idx) 1).val : Int)
        rw [h0', h1', hk]
        omega
  refine (Finset.sum_congr rfl fun q _ => (show _ = if q = k then (if b (ix1 i) = BitVec.ofNat 32 g.val then (x (ix2 i k) * a (ix1 i) : EReal) else 0) else 0 from ?_)).trans ((Finset.sum_ite_eq' Finset.univ k _).trans (if_pos (Finset.mem_univ k)))
  rw [hmul q, if_congr (h q) rfl rfl]
  by_cases hq : q = k
  · subst hq
    simp only [and_true, if_true]
  · rw [if_neg hq, if_neg fun h => hq h.2]

end Cert.ReferenceIdeal.Hand
-- ==== Proof.Value.Precondition.lean ====
/-
  What the precondition says: every segment id is one of the 512 segments' numbers.
-/
module

public import proofs.«01_k».proof.Pre_in_range
public import Idealize.ShloMosaic.Lib.Affine
public import Idealize.ShloMosaic.Lib.ReduceAll
public import Idealize.ShloMosaic.Lib.StableHlo.Predicate
public import Idealize.ShloMosaic.Lib.Pointwise

@[expose] public section

noncomputable section

namespace Cert.Pre_in_range.Hand

open Cert.Pre_in_range Idealize.ShloMosaic

/-- The predicate's side conditions. -/
theorem facts : Cert.Pre_in_range.Facts := ⟨by decide, by decide, by decide⟩

/-- A word from 0 to below 512, read signed, is a segment's number. -/
theorem segment_of_word (a : BitVec 32) (h0 : 0 ≤ a.toInt) (h1 : a.toInt < 512) : ∃ g : Fin 512, a = BitVec.ofNat 32 g.val := by
  have h2 : a.toInt.toNat < 512 := by omega
  refine ⟨⟨a.toInt.toNat, h2⟩, BitVec.eq_of_toInt_eq ?_⟩
  rw [StableHlo.Predicate.toInt_ofNat_small _ (by omega)]
  show a.toInt = ((a.toInt.toNat : ℕ) : Int)
  omega

/-- Where the predicate is one, every id is a segment's number. -/
theorem segment_of_pre [Cert.Pre_in_range.Facts] {F : FTy → Type} [FloatOps F] (x : FVec F S100000x128 .f32) (w : FVec F S128x1 .f32) (b : IVec S100000 32)
    (h : Cert.Pre_in_range.fn x w b = fun _ => 1#1) (i : Fin 100000) : ∃ g : Fin 512, b (ix1 i) = BitVec.ofNat 32 g.val := by
  haveI : Subsingleton S_.Idx := ⟨fun p q => funext fun d => d.elim0⟩
  have e := Host.reduce_andi_all _ _ _ _ (fun d => d.elim0) (congrFun h (fun d => d.elim0)) (ix1 i)
  obtain ⟨h0, h1⟩ := IntOp.andi_eq_one.1 e
  exact segment_of_word _ (IntOp.cmpi_sge.1 h0) (IntOp.cmpi_slt.1 h1)

end Cert.Pre_in_range.Hand
-- ==== Proof.Value.Equation.lean ====
/-
  The equation: over the extended reals the kernel's two results are the reference's.
-/
module

public import proofs.«01_k».proof.Defs
public import proofs.«01_k».proof.Proof.Value.Buffers
public import proofs.«01_k».proof.Proof.Value.Reference
public import proofs.«01_k».proof.Proof.Value.Precondition

@[expose] public section

set_option maxRecDepth 16384

noncomputable section

namespace Cert.Equation

open Idealize.ShloMosaic Idealize.ShloMosaic.TcCoe Idealize.SL.Sem
open Cert.ReferenceIdeal (S100000x128 S128x1 S100000 S512)

/-- A quotient of vectors, read at an entry. -/
theorem divf_entry (a d : FVec Ideal S100000 .f32) (i : S100000.Idx) : Host.divf a d i = Ideal.div (a i) (d i) := rfl

section Reference

variable (x : FVec Ideal S100000x128 .f32) (w : FVec Ideal S128x1 .f32) (b : IVec S100000 32)

/-- The reference's exponentials of the scores, shifted by their segments' maxima. -/
def refExp : FVec Ideal S100000 .f32 :=
  Host.exp (subf (ReferenceIdeal.Hand.score x w) (ReferenceIdeal.Hand.atSeg (ReferenceIdeal.Hand.segMax (ReferenceIdeal.Hand.score x w) b) b))

/-- The reference's softmax weights. -/
def refWeight : FVec Ideal S100000 .f32 := Host.divf (refExp x w b) (ReferenceIdeal.Hand.atSeg (ReferenceIdeal.Hand.segSum (refExp x w b) b) b)

/-- The reference's exponential at a node of segment `g`. -/
theorem refExp_apply (i : Fin 100000) (g : Fin 512) (h : b (ix1 i) = BitVec.ofNat 32 g.val) :
    refExp x w b (ix1 i) = Ideal.exp (KernelIdeal.Hand.score x w i - ReferenceIdeal.Hand.segMax (ReferenceIdeal.Hand.score x w) b (ix1 g)) := by
  show Ideal.exp (ReferenceIdeal.Hand.score x w (ix1 i) - ReferenceIdeal.Hand.atSeg (ReferenceIdeal.Hand.segMax (ReferenceIdeal.Hand.score x w) b) b (ix1 i)) = _
  rw [ReferenceIdeal.Hand.atSeg_apply _ b i g h, ReferenceIdeal.Hand.score_apply]
  rfl

/-- The reference's weight at a node of segment `g`. -/
theorem refWeight_apply (i : Fin 100000) (g : Fin 512) (h : b (ix1 i) = BitVec.ofNat 32 g.val) :
    refWeight x w b (ix1 i)
      = Ideal.div (Ideal.exp (KernelIdeal.Hand.score x w i - ReferenceIdeal.Hand.segMax (ReferenceIdeal.Hand.score x w) b (ix1 g)))
          (∑ j, if KernelIdeal.Hand.inSeg b g j
            then Ideal.exp (KernelIdeal.Hand.score x w j - ReferenceIdeal.Hand.segMax (ReferenceIdeal.Hand.score x w) b (ix1 g)) else 0) := by
  unfold refWeight
  rw [divf_entry, ReferenceIdeal.Hand.atSeg_apply _ b i g h, ReferenceIdeal.Hand.segSum_apply, refExp_apply x w b i g h]
  refine congrArg (Ideal.div _) (Finset.sum_congr rfl fun j _ => ?_)
  by_cases hj : b (ix1 j) = BitVec.ofNat 32 g.val
  · rw [if_pos hj, if_pos (show KernelIdeal.Hand.inSeg b g j from hj), refExp_apply x w b j g hj]
  · rw [if_neg hj, if_neg (show ¬KernelIdeal.Hand.inSeg b g j from hj)]

end Reference

section Kernel

open Cert.KernelIdeal Cert.KernelIdeal.Hand

variable (m : (ℓ : Loc nD τ sig) → Buf (Elt Ideal) ℓ) (c : Dev nD)
variable (seg : Fin 100000 → Fin 512) (hseg : ∀ i, inSeg (argB m c) (seg i) i)

include hseg in
/-- The kernel's weight of a node is the reference's. -/
theorem runWeight_eq (i : Fin 100000) : runWeight m c seg i = refWeight (argX m c) (argW m c) (argB m c) (ix1 i) := by
  obtain ⟨f, hf⟩ := Words.ofBits_floor
  rw [refWeight_apply (argX m c) (argW m c) (argB m c) i (seg i) (hseg i)]
  unfold runWeight weight
  rw [segL_eq]
  refine Softmax.weight_floor (Hand.score (argX m c) (argW m c)) (inSeg (argB m c) (seg i)) f _ _ (fun X => ?_) (fun X => ?_) i (hseg i)
  · rw [segM_le, floorVal, hf]
  · rw [ReferenceIdeal.Hand.segMax_le]
    refine forall_congr' fun j => imp_congr Iff.rfl ?_
    rw [ReferenceIdeal.Hand.score_apply]; rfl

include hseg in
/-- The kernel's weights are the reference's. -/
theorem weights_eq : (vEnd m c main_v3 : FVec Ideal Cert.ReferenceIdeal.S100000 .f32) = refWeight (argX m c) (argW m c) (argB m c) := by
  funext i
  rw [eq_ix1 i]
  exact (vEnd_weights m c seg hseg _).trans (runWeight_eq m c seg hseg _)

include hseg in
/-- The kernel's readout, entry by entry, is the reference's. -/
theorem readout_entry (g : Fin 512) (k : Fin 128) :
    (∑ i, if inSeg (argB m c) g i then argX m c (ix2 i k) * runWeight m c seg i else (0 : EReal))
      = ReferenceIdeal.Hand.readout (argX m c) (refWeight (argX m c) (argW m c) (argB m c)) (argB m c) (ix2 g k) := by
  rw [ReferenceIdeal.Hand.readout_apply]
  refine Finset.sum_congr rfl fun j _ => ?_
  rw [runWeight_eq m c seg hseg j]
  exact if_congr Iff.rfl rfl rfl

include hseg in
/-- The kernel's readout is the reference's. -/
theorem readout_eq : (vEnd m c main_v2_1 : FVec Ideal Cert.ReferenceIdeal.S512x128 .f32)
    = ReferenceIdeal.Hand.readout (argX m c) (refWeight (argX m c) (argW m c) (argB m c)) (argB m c) := by
  funext i
  rw [eq_ix2 i]
  exact (vEnd_readout m c seg hseg _ _).trans (readout_entry m c seg hseg _ _)

end Kernel

/-- From memories that agree on the arguments and whose segment ids are in range, the kernel and the reference end with
    the same readout and the same weights, the arguments unchanged. -/
theorem algebraic_holds :
    Cert.algebraic_KernelIdeal_ReferenceIdeal_pre_in_range (hKernelIdeal := Cert.KernelIdeal.Gen.facts) (hReferenceIdeal := Cert.ReferenceIdeal.Gen.facts)
      (hPre_in_range := Cert.Pre_in_range.Hand.facts) := by
  intro m g m' g' hpre hargs
  have hseg : ∀ c : Dev Cert.KernelIdeal.nD, ∃ seg : Fin 100000 → Fin 512, ∀ i, KernelIdeal.Hand.inSeg (KernelIdeal.Hand.argB m c) (seg i) i := fun c =>
    Classical.skolem.mp (@Cert.Pre_in_range.Hand.segment_of_pre Cert.Pre_in_range.Hand.facts _ _ _ _ _ (hpre c))
  refine ⟨fun c => KernelIdeal.Hand.vEnd m c Cert.KernelIdeal.main_v2_1, fun c => KernelIdeal.Hand.vEnd m c Cert.KernelIdeal.main_v3,
    KernelIdeal.Hand.run_results m g, ?_⟩
  refine (θ_run _ _ _).mono (fun r h c => ?_) (Cert.ReferenceIdeal.Value.run m' g')
  obtain ⟨seg, hs⟩ := hseg c
  obtain ⟨e0, e1, e2⟩ := hargs c
  obtain ⟨h0, h1, h2, h3, h4⟩ := h c
  rw [e0, e1, e2] at h0 h1
  exact ⟨h0.trans (readout_eq m c seg hs).symm, h1.trans (weights_eq m c seg hs).symm, h2, h3, h4⟩

end Cert.Equation
-- ==== Proof.lean ====
/-
  The assembly: each claim from the module that proves it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Word.Run
public import proofs.«01_k».proof.Proof.Ideal.Run
public import proofs.«01_k».proof.Proof.ReferenceFrame
public import proofs.«01_k».proof.Proof.Value.Equation
public import Idealize.ShloMosaic.Adequacy
public import Idealize.ShloMosaic.Init

@[expose] public section

noncomputable section

namespace Cert.Proof

open Idealize.ShloMosaic Idealize.SL.Sem

/-- The certificate's claims, all of them. -/
theorem claim : Cert.Claim := ⟨Cert.Kernel.Gen.facts, Cert.KernelIdeal.Gen.facts, Cert.ReferenceIdeal.Gen.facts, Cert.Pre_in_range.Hand.facts,
  fun m g _ => Cert.Kernel.Hand.frame_holds m g,
  fun m g _ => Cert.KernelIdeal.Hand.frame_holds m g,
  fun m g _ => Cert.KernelIdeal.Hand.frame_holds m g,
  fun m g _ => Cert.ReferenceIdeal.Hand.frame_holds m g,
  fun m g _ => Cert.ReferenceIdeal.Hand.frame_holds m g,
  trivial,
  Cert.Equation.algebraic_holds⟩

end Cert.Proof

end
